-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16x64x64 : Shape := ⟨3, ![16, 64, 64]⟩
abbrev S15 : Shape := ⟨1, ![15]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S1024x64, .bf16⟩
  | .hbm, ⟨1, _⟩ => ⟨S1024x1024, .bf16⟩
  | .hbm, ⟨2, _⟩ => ⟨S64x1024, .f32⟩
  | .local _ .vmem, ⟨0, _⟩ => ⟨S1024x64, .bf16⟩
  | .local _ .vmem, ⟨1, _⟩ => ⟨S1024x1024, .bf16⟩
  | .local _ .vmem, ⟨2, _⟩ => ⟨S64x1024, .f32⟩
  | .local _ .vmem, ⟨3, _⟩ => ⟨S16x64x64, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v199 : BitVec 32 := Scalar.muli v2 c64_i32
  let v200 : Index := Scalar.indexCast v199
  let c0 : Index := 0#32
  ![v200.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v203 : Index := Scalar.indexCast v2
  let c0_136 : Index := 0#32
  let c0_137 : Index := 0#32
  ![v203.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let c0_i32_151 : BitVec 32 := 0#32
  ![v2.toNat, 0, 0]
def k0_off4 (d0 : Dev nD) (c1_i32_138 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v207 : BitVec 32 := Scalar.addi v2 c1_i32_138
  let c16_i32_139 : BitVec 32 := 16#32
  let c0_i32_140 : BitVec 32 := 0#32
  let v208 : BitVec 1 := Scalar.cmpi .eq c16_i32_139 c0_i32_140
  let c1_i32_141 : BitVec 32 := 1#32
  let v209 : BitVec 32 := Scalar.select v208 c1_i32_141 c16_i32_139
  let v210 : BitVec 32 := Scalar.remsi v207 v209
  let c0_i32_143 : BitVec 32 := 0#32
  let v212 : BitVec 1 := Scalar.cmpi .slt v210 c0_i32_143
  let c0_i32_144 : BitVec 32 := 0#32
  let v213 : BitVec 1 := Scalar.cmpi .slt v209 c0_i32_144
  let v214 : BitVec 1 := Scalar.xori v212 v213
  let c0_i32_142 : BitVec 32 := 0#32
  let v211 : BitVec 1 := Scalar.cmpi .ne v210 c0_i32_142
  let v215 : BitVec 1 := Scalar.andi v214 v211
  let v216 : BitVec 32 := Scalar.addi v210 v209
  let v217 : BitVec 32 := Scalar.select v215 v216 v210
  let c64_i32_145 : BitVec 32 := 64#32
  let v218 : BitVec 32 := Scalar.muli v217 c64_i32_145
  let c0_i32_152 : BitVec 32 := 0#32
  ![v218.toNat, 0]
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_138 : BitVec 32 := 1#32
  let v207 : BitVec 32 := Scalar.addi v2 c1_i32_138
  let c16_i32_139 : BitVec 32 := 16#32
  let c0_i32_140 : BitVec 32 := 0#32
  let v208 : BitVec 1 := Scalar.cmpi .eq c16_i32_139 c0_i32_140
  let c1_i32_141 : BitVec 32 := 1#32
  let v209 : BitVec 32 := Scalar.select v208 c1_i32_141 c16_i32_139
  let v210 : BitVec 32 := Scalar.remsi v207 v209
  let c0_i32_143 : BitVec 32 := 0#32
  let v212 : BitVec 1 := Scalar.cmpi .slt v210 c0_i32_143
  let c0_i32_144 : BitVec 32 := 0#32
  let v213 : BitVec 1 := Scalar.cmpi .slt v209 c0_i32_144
  let v214 : BitVec 1 := Scalar.xori v212 v213
  let c0_i32_142 : BitVec 32 := 0#32
  let v211 : BitVec 1 := Scalar.cmpi .ne v210 c0_i32_142
  let v215 : BitVec 1 := Scalar.andi v214 v211
  let v216 : BitVec 32 := Scalar.addi v210 v209
  let v217 : BitVec 32 := Scalar.select v215 v216 v210
  let c1_i32_148 : BitVec 32 := 1#32
  let v219 : BitVec 32 := Scalar.muli v217 c1_i32_148
  let v220 : BitVec 32 := Scalar.addi c0_i32_149 v219
  v220.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v228 : BitVec 32 := Scalar.addi v2 c2_i32_153
  let c16_i32_154 : BitVec 32 := 16#32
  let c0_i32_155 : BitVec 32 := 0#32
  let v229 : BitVec 1 := Scalar.cmpi .eq c16_i32_154 c0_i32_155
  let c1_i32_156 : BitVec 32 := 1#32
  let v230 : BitVec 32 := Scalar.select v229 c1_i32_156 c16_i32_154
  let v231 : BitVec 32 := Scalar.remsi v228 v230
  let c0_i32_158 : BitVec 32 := 0#32
  let v233 : BitVec 1 := Scalar.cmpi .slt v231 c0_i32_158
  let c0_i32_159 : BitVec 32 := 0#32
  let v234 : BitVec 1 := Scalar.cmpi .slt v230 c0_i32_159
  let v235 : BitVec 1 := Scalar.xori v233 v234
  let c0_i32_157 : BitVec 32 := 0#32
  let v232 : BitVec 1 := Scalar.cmpi .ne v231 c0_i32_157
  let v236 : BitVec 1 := Scalar.andi v235 v232
  let v237 : BitVec 32 := Scalar.addi v231 v230
  let v238 : BitVec 32 := Scalar.select v236 v237 v231
  let c1_i32_163 : BitVec 32 := 1#32
  let v240 : BitVec 32 := Scalar.muli v238 c1_i32_163
  let v241 : BitVec 32 := Scalar.addi c0_i32_164 v240
  v241.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_168 : BitVec 32 := 3#32
  let v249 : BitVec 32 := Scalar.addi v2 c3_i32_168
  let c16_i32_169 : BitVec 32 := 16#32
  let c0_i32_170 : BitVec 32 := 0#32
  let v250 : BitVec 1 := Scalar.cmpi .eq c16_i32_169 c0_i32_170
  let c1_i32_171 : BitVec 32 := 1#32
  let v251 : BitVec 32 := Scalar.select v250 c1_i32_171 c16_i32_169
  let v252 : BitVec 32 := Scalar.remsi v249 v251
  let c0_i32_173 : BitVec 32 := 0#32
  let v254 : BitVec 1 := Scalar.cmpi .slt v252 c0_i32_173
  let c0_i32_174 : BitVec 32 := 0#32
  let v255 : BitVec 1 := Scalar.cmpi .slt v251 c0_i32_174
  let v256 : BitVec 1 := Scalar.xori v254 v255
  let c0_i32_172 : BitVec 32 := 0#32
  let v253 : BitVec 1 := Scalar.cmpi .ne v252 c0_i32_172
  let v257 : BitVec 1 := Scalar.andi v256 v253
  let v258 : BitVec 32 := Scalar.addi v252 v251
  let v259 : BitVec 32 := Scalar.select v257 v258 v252
  let c1_i32_178 : BitVec 32 := 1#32
  let v261 : BitVec 32 := Scalar.muli v259 c1_i32_178
  let v262 : BitVec 32 := Scalar.addi c0_i32_179 v261
  v262.toNat
def k0_dev19 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v270 : BitVec 32 := Scalar.addi v2 c4_i32_183
  let c16_i32_184 : BitVec 32 := 16#32
  let c0_i32_185 : BitVec 32 := 0#32
  let v271 : BitVec 1 := Scalar.cmpi .eq c16_i32_184 c0_i32_185
  let c1_i32_186 : BitVec 32 := 1#32
  let v272 : BitVec 32 := Scalar.select v271 c1_i32_186 c16_i32_184
  let v273 : BitVec 32 := Scalar.remsi v270 v272
  let c0_i32_188 : BitVec 32 := 0#32
  let v275 : BitVec 1 := Scalar.cmpi .slt v273 c0_i32_188
  let c0_i32_189 : BitVec 32 := 0#32
  let v276 : BitVec 1 := Scalar.cmpi .slt v272 c0_i32_189
  let v277 : BitVec 1 := Scalar.xori v275 v276
  let c0_i32_187 : BitVec 32 := 0#32
  let v274 : BitVec 1 := Scalar.cmpi .ne v273 c0_i32_187
  let v278 : BitVec 1 := Scalar.andi v277 v274
  let v279 : BitVec 32 := Scalar.addi v273 v272
  let v280 : BitVec 32 := Scalar.select v278 v279 v273
  let c1_i32_193 : BitVec 32 := 1#32
  let v282 : BitVec 32 := Scalar.muli v280 c1_i32_193
  let v283 : BitVec 32 := Scalar.addi c0_i32_194 v282
  v283.toNat
def k0_dev20 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_198 : BitVec 32 := 5#32
  let v291 : BitVec 32 := Scalar.addi v2 c5_i32_198
  let c16_i32_199 : BitVec 32 := 16#32
  let c0_i32_200 : BitVec 32 := 0#32
  let v292 : BitVec 1 := Scalar.cmpi .eq c16_i32_199 c0_i32_200
  let c1_i32_201 : BitVec 32 := 1#32
  let v293 : BitVec 32 := Scalar.select v292 c1_i32_201 c16_i32_199
  let v294 : BitVec 32 := Scalar.remsi v291 v293
  let c0_i32_203 : BitVec 32 := 0#32
  let v296 : BitVec 1 := Scalar.cmpi .slt v294 c0_i32_203
  let c0_i32_204 : BitVec 32 := 0#32
  let v297 : BitVec 1 := Scalar.cmpi .slt v293 c0_i32_204
  let v298 : BitVec 1 := Scalar.xori v296 v297
  let c0_i32_202 : BitVec 32 := 0#32
  let v295 : BitVec 1 := Scalar.cmpi .ne v294 c0_i32_202
  let v299 : BitVec 1 := Scalar.andi v298 v295
  let v300 : BitVec 32 := Scalar.addi v294 v293
  let v301 : BitVec 32 := Scalar.select v299 v300 v294
  let c1_i32_208 : BitVec 32 := 1#32
  let v303 : BitVec 32 := Scalar.muli v301 c1_i32_208
  let v304 : BitVec 32 := Scalar.addi c0_i32_209 v303
  v304.toNat
def k0_dev21 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_213 : BitVec 32 := 6#32
  let v312 : BitVec 32 := Scalar.addi v2 c6_i32_213
  let c16_i32_214 : BitVec 32 := 16#32
  let c0_i32_215 : BitVec 32 := 0#32
  let v313 : BitVec 1 := Scalar.cmpi .eq c16_i32_214 c0_i32_215
  let c1_i32_216 : BitVec 32 := 1#32
  let v314 : BitVec 32 := Scalar.select v313 c1_i32_216 c16_i32_214
  let v315 : BitVec 32 := Scalar.remsi v312 v314
  let c0_i32_218 : BitVec 32 := 0#32
  let v317 : BitVec 1 := Scalar.cmpi .slt v315 c0_i32_218
  let c0_i32_219 : BitVec 32 := 0#32
  let v318 : BitVec 1 := Scalar.cmpi .slt v314 c0_i32_219
  let v319 : BitVec 1 := Scalar.xori v317 v318
  let c0_i32_217 : BitVec 32 := 0#32
  let v316 : BitVec 1 := Scalar.cmpi .ne v315 c0_i32_217
  let v320 : BitVec 1 := Scalar.andi v319 v316
  let v321 : BitVec 32 := Scalar.addi v315 v314
  let v322 : BitVec 32 := Scalar.select v320 v321 v315
  let c1_i32_223 : BitVec 32 := 1#32
  let v324 : BitVec 32 := Scalar.muli v322 c1_i32_223
  let v325 : BitVec 32 := Scalar.addi c0_i32_224 v324
  v325.toNat
def k0_dev22 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_228 : BitVec 32 := 7#32
  let v333 : BitVec 32 := Scalar.addi v2 c7_i32_228
  let c16_i32_229 : BitVec 32 := 16#32
  let c0_i32_230 : BitVec 32 := 0#32
  let v334 : BitVec 1 := Scalar.cmpi .eq c16_i32_229 c0_i32_230
  let c1_i32_231 : BitVec 32 := 1#32
  let v335 : BitVec 32 := Scalar.select v334 c1_i32_231 c16_i32_229
  let v336 : BitVec 32 := Scalar.remsi v333 v335
  let c0_i32_233 : BitVec 32 := 0#32
  let v338 : BitVec 1 := Scalar.cmpi .slt v336 c0_i32_233
  let c0_i32_234 : BitVec 32 := 0#32
  let v339 : BitVec 1 := Scalar.cmpi .slt v335 c0_i32_234
  let v340 : BitVec 1 := Scalar.xori v338 v339
  let c0_i32_232 : BitVec 32 := 0#32
  let v337 : BitVec 1 := Scalar.cmpi .ne v336 c0_i32_232
  let v341 : BitVec 1 := Scalar.andi v340 v337
  let v342 : BitVec 32 := Scalar.addi v336 v335
  let v343 : BitVec 32 := Scalar.select v341 v342 v336
  let c1_i32_238 : BitVec 32 := 1#32
  let v345 : BitVec 32 := Scalar.muli v343 c1_i32_238
  let v346 : BitVec 32 := Scalar.addi c0_i32_239 v345
  v346.toNat
def k0_dev23 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_243 : BitVec 32 := 8#32
  let v354 : BitVec 32 := Scalar.addi v2 c8_i32_243
  let c16_i32_244 : BitVec 32 := 16#32
  let c0_i32_245 : BitVec 32 := 0#32
  let v355 : BitVec 1 := Scalar.cmpi .eq c16_i32_244 c0_i32_245
  let c1_i32_246 : BitVec 32 := 1#32
  let v356 : BitVec 32 := Scalar.select v355 c1_i32_246 c16_i32_244
  let v357 : BitVec 32 := Scalar.remsi v354 v356
  let c0_i32_248 : BitVec 32 := 0#32
  let v359 : BitVec 1 := Scalar.cmpi .slt v357 c0_i32_248
  let c0_i32_249 : BitVec 32 := 0#32
  let v360 : BitVec 1 := Scalar.cmpi .slt v356 c0_i32_249
  let v361 : BitVec 1 := Scalar.xori v359 v360
  let c0_i32_247 : BitVec 32 := 0#32
  let v358 : BitVec 1 := Scalar.cmpi .ne v357 c0_i32_247
  let v362 : BitVec 1 := Scalar.andi v361 v358
  let v363 : BitVec 32 := Scalar.addi v357 v356
  let v364 : BitVec 32 := Scalar.select v362 v363 v357
  let c1_i32_253 : BitVec 32 := 1#32
  let v366 : BitVec 32 := Scalar.muli v364 c1_i32_253
  let v367 : BitVec 32 := Scalar.addi c0_i32_254 v366
  v367.toNat
def k0_dev24 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_258 : BitVec 32 := 9#32
  let v375 : BitVec 32 := Scalar.addi v2 c9_i32_258
  let c16_i32_259 : BitVec 32 := 16#32
  let c0_i32_260 : BitVec 32 := 0#32
  let v376 : BitVec 1 := Scalar.cmpi .eq c16_i32_259 c0_i32_260
  let c1_i32_261 : BitVec 32 := 1#32
  let v377 : BitVec 32 := Scalar.select v376 c1_i32_261 c16_i32_259
  let v378 : BitVec 32 := Scalar.remsi v375 v377
  let c0_i32_263 : BitVec 32 := 0#32
  let v380 : BitVec 1 := Scalar.cmpi .slt v378 c0_i32_263
  let c0_i32_264 : BitVec 32 := 0#32
  let v381 : BitVec 1 := Scalar.cmpi .slt v377 c0_i32_264
  let v382 : BitVec 1 := Scalar.xori v380 v381
  let c0_i32_262 : BitVec 32 := 0#32
  let v379 : BitVec 1 := Scalar.cmpi .ne v378 c0_i32_262
  let v383 : BitVec 1 := Scalar.andi v382 v379
  let v384 : BitVec 32 := Scalar.addi v378 v377
  let v385 : BitVec 32 := Scalar.select v383 v384 v378
  let c1_i32_268 : BitVec 32 := 1#32
  let v387 : BitVec 32 := Scalar.muli v385 c1_i32_268
  let v388 : BitVec 32 := Scalar.addi c0_i32_269 v387
  v388.toNat
def k0_dev25 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_273 : BitVec 32 := 10#32
  let v396 : BitVec 32 := Scalar.addi v2 c10_i32_273
  let c16_i32_274 : BitVec 32 := 16#32
  let c0_i32_275 : BitVec 32 := 0#32
  let v397 : BitVec 1 := Scalar.cmpi .eq c16_i32_274 c0_i32_275
  let c1_i32_276 : BitVec 32 := 1#32
  let v398 : BitVec 32 := Scalar.select v397 c1_i32_276 c16_i32_274
  let v399 : BitVec 32 := Scalar.remsi v396 v398
  let c0_i32_278 : BitVec 32 := 0#32
  let v401 : BitVec 1 := Scalar.cmpi .slt v399 c0_i32_278
  let c0_i32_279 : BitVec 32 := 0#32
  let v402 : BitVec 1 := Scalar.cmpi .slt v398 c0_i32_279
  let v403 : BitVec 1 := Scalar.xori v401 v402
  let c0_i32_277 : BitVec 32 := 0#32
  let v400 : BitVec 1 := Scalar.cmpi .ne v399 c0_i32_277
  let v404 : BitVec 1 := Scalar.andi v403 v400
  let v405 : BitVec 32 := Scalar.addi v399 v398
  let v406 : BitVec 32 := Scalar.select v404 v405 v399
  let c1_i32_283 : BitVec 32 := 1#32
  let v408 : BitVec 32 := Scalar.muli v406 c1_i32_283
  let v409 : BitVec 32 := Scalar.addi c0_i32_284 v408
  v409.toNat
def k0_dev26 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v417 : BitVec 32 := Scalar.addi v2 c11_i32_288
  let c16_i32_289 : BitVec 32 := 16#32
  let c0_i32_290 : BitVec 32 := 0#32
  let v418 : BitVec 1 := Scalar.cmpi .eq c16_i32_289 c0_i32_290
  let c1_i32_291 : BitVec 32 := 1#32
  let v419 : BitVec 32 := Scalar.select v418 c1_i32_291 c16_i32_289
  let v420 : BitVec 32 := Scalar.remsi v417 v419
  let c0_i32_293 : BitVec 32 := 0#32
  let v422 : BitVec 1 := Scalar.cmpi .slt v420 c0_i32_293
  let c0_i32_294 : BitVec 32 := 0#32
  let v423 : BitVec 1 := Scalar.cmpi .slt v419 c0_i32_294
  let v424 : BitVec 1 := Scalar.xori v422 v423
  let c0_i32_292 : BitVec 32 := 0#32
  let v421 : BitVec 1 := Scalar.cmpi .ne v420 c0_i32_292
  let v425 : BitVec 1 := Scalar.andi v424 v421
  let v426 : BitVec 32 := Scalar.addi v420 v419
  let v427 : BitVec 32 := Scalar.select v425 v426 v420
  let c1_i32_298 : BitVec 32 := 1#32
  let v429 : BitVec 32 := Scalar.muli v427 c1_i32_298
  let v430 : BitVec 32 := Scalar.addi c0_i32_299 v429
  v430.toNat
def k0_dev27 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_303 : BitVec 32 := 12#32
  let v438 : BitVec 32 := Scalar.addi v2 c12_i32_303
  let c16_i32_304 : BitVec 32 := 16#32
  let c0_i32_305 : BitVec 32 := 0#32
  let v439 : BitVec 1 := Scalar.cmpi .eq c16_i32_304 c0_i32_305
  let c1_i32_306 : BitVec 32 := 1#32
  let v440 : BitVec 32 := Scalar.select v439 c1_i32_306 c16_i32_304
  let v441 : BitVec 32 := Scalar.remsi v438 v440
  let c0_i32_308 : BitVec 32 := 0#32
  let v443 : BitVec 1 := Scalar.cmpi .slt v441 c0_i32_308
  let c0_i32_309 : BitVec 32 := 0#32
  let v444 : BitVec 1 := Scalar.cmpi .slt v440 c0_i32_309
  let v445 : BitVec 1 := Scalar.xori v443 v444
  let c0_i32_307 : BitVec 32 := 0#32
  let v442 : BitVec 1 := Scalar.cmpi .ne v441 c0_i32_307
  let v446 : BitVec 1 := Scalar.andi v445 v442
  let v447 : BitVec 32 := Scalar.addi v441 v440
  let v448 : BitVec 32 := Scalar.select v446 v447 v441
  let c1_i32_313 : BitVec 32 := 1#32
  let v450 : BitVec 32 := Scalar.muli v448 c1_i32_313
  let v451 : BitVec 32 := Scalar.addi c0_i32_314 v450
  v451.toNat
def k0_dev28 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_318 : BitVec 32 := 13#32
  let v459 : BitVec 32 := Scalar.addi v2 c13_i32_318
  let c16_i32_319 : BitVec 32 := 16#32
  let c0_i32_320 : BitVec 32 := 0#32
  let v460 : BitVec 1 := Scalar.cmpi .eq c16_i32_319 c0_i32_320
  let c1_i32_321 : BitVec 32 := 1#32
  let v461 : BitVec 32 := Scalar.select v460 c1_i32_321 c16_i32_319
  let v462 : BitVec 32 := Scalar.remsi v459 v461
  let c0_i32_323 : BitVec 32 := 0#32
  let v464 : BitVec 1 := Scalar.cmpi .slt v462 c0_i32_323
  let c0_i32_324 : BitVec 32 := 0#32
  let v465 : BitVec 1 := Scalar.cmpi .slt v461 c0_i32_324
  let v466 : BitVec 1 := Scalar.xori v464 v465
  let c0_i32_322 : BitVec 32 := 0#32
  let v463 : BitVec 1 := Scalar.cmpi .ne v462 c0_i32_322
  let v467 : BitVec 1 := Scalar.andi v466 v463
  let v468 : BitVec 32 := Scalar.addi v462 v461
  let v469 : BitVec 32 := Scalar.select v467 v468 v462
  let c1_i32_328 : BitVec 32 := 1#32
  let v471 : BitVec 32 := Scalar.muli v469 c1_i32_328
  let v472 : BitVec 32 := Scalar.addi c0_i32_329 v471
  v472.toNat
def k0_dev29 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_333 : BitVec 32 := 14#32
  let v480 : BitVec 32 := Scalar.addi v2 c14_i32_333
  let c16_i32_334 : BitVec 32 := 16#32
  let c0_i32_335 : BitVec 32 := 0#32
  let v481 : BitVec 1 := Scalar.cmpi .eq c16_i32_334 c0_i32_335
  let c1_i32_336 : BitVec 32 := 1#32
  let v482 : BitVec 32 := Scalar.select v481 c1_i32_336 c16_i32_334
  let v483 : BitVec 32 := Scalar.remsi v480 v482
  let c0_i32_338 : BitVec 32 := 0#32
  let v485 : BitVec 1 := Scalar.cmpi .slt v483 c0_i32_338
  let c0_i32_339 : BitVec 32 := 0#32
  let v486 : BitVec 1 := Scalar.cmpi .slt v482 c0_i32_339
  let v487 : BitVec 1 := Scalar.xori v485 v486
  let c0_i32_337 : BitVec 32 := 0#32
  let v484 : BitVec 1 := Scalar.cmpi .ne v483 c0_i32_337
  let v488 : BitVec 1 := Scalar.andi v487 v484
  let v489 : BitVec 32 := Scalar.addi v483 v482
  let v490 : BitVec 32 := Scalar.select v488 v489 v483
  let c1_i32_343 : BitVec 32 := 1#32
  let v492 : BitVec 32 := Scalar.muli v490 c1_i32_343
  let v493 : BitVec 32 := Scalar.addi c0_i32_344 v492
  v493.toNat
def k0_dev30 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_348 : BitVec 32 := 15#32
  let v501 : BitVec 32 := Scalar.addi v2 c15_i32_348
  let c16_i32_349 : BitVec 32 := 16#32
  let c0_i32_350 : BitVec 32 := 0#32
  let v502 : BitVec 1 := Scalar.cmpi .eq c16_i32_349 c0_i32_350
  let c1_i32_351 : BitVec 32 := 1#32
  let v503 : BitVec 32 := Scalar.select v502 c1_i32_351 c16_i32_349
  let v504 : BitVec 32 := Scalar.remsi v501 v503
  let c0_i32_353 : BitVec 32 := 0#32
  let v506 : BitVec 1 := Scalar.cmpi .slt v504 c0_i32_353
  let c0_i32_354 : BitVec 32 := 0#32
  let v507 : BitVec 1 := Scalar.cmpi .slt v503 c0_i32_354
  let v508 : BitVec 1 := Scalar.xori v506 v507
  let c0_i32_352 : BitVec 32 := 0#32
  let v505 : BitVec 1 := Scalar.cmpi .ne v504 c0_i32_352
  let v509 : BitVec 1 := Scalar.andi v508 v505
  let v510 : BitVec 32 := Scalar.addi v504 v503
  let v511 : BitVec 32 := Scalar.select v509 v510 v504
  let c1_i32_358 : BitVec 32 := 1#32
  let v513 : BitVec 32 := Scalar.muli v511 c1_i32_358
  let v514 : BitVec 32 := Scalar.addi c0_i32_359 v513
  v514.toNat
def k0_off5 (d0 : Dev nD) (c1_i32_363 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v522 : BitVec 32 := Scalar.subi v2 c1_i32_363
  let c16_i32_364 : BitVec 32 := 16#32
  let c0_i32_365 : BitVec 32 := 0#32
  let v523 : BitVec 1 := Scalar.cmpi .eq c16_i32_364 c0_i32_365
  let c1_i32_366 : BitVec 32 := 1#32
  let v524 : BitVec 32 := Scalar.select v523 c1_i32_366 c16_i32_364
  let v525 : BitVec 32 := Scalar.remsi v522 v524
  let c0_i32_368 : BitVec 32 := 0#32
  let v527 : BitVec 1 := Scalar.cmpi .slt v525 c0_i32_368
  let c0_i32_369 : BitVec 32 := 0#32
  let v528 : BitVec 1 := Scalar.cmpi .slt v524 c0_i32_369
  let v529 : BitVec 1 := Scalar.xori v527 v528
  let c0_i32_367 : BitVec 32 := 0#32
  let v526 : BitVec 1 := Scalar.cmpi .ne v525 c0_i32_367
  let v530 : BitVec 1 := Scalar.andi v529 v526
  let v531 : BitVec 32 := Scalar.addi v525 v524
  let v532 : BitVec 32 := Scalar.select v530 v531 v525
  let c0_i32_375 : BitVec 32 := 0#32
  let c0_i32_376 : BitVec 32 := 0#32
  ![v532.toNat, 0, 0]
def k0_off6 (d0 : Dev nD) (c1_i32_363 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v522 : BitVec 32 := Scalar.subi v2 c1_i32_363
  let c16_i32_364 : BitVec 32 := 16#32
  let c0_i32_365 : BitVec 32 := 0#32
  let v523 : BitVec 1 := Scalar.cmpi .eq c16_i32_364 c0_i32_365
  let c1_i32_366 : BitVec 32 := 1#32
  let v524 : BitVec 32 := Scalar.select v523 c1_i32_366 c16_i32_364
  let v525 : BitVec 32 := Scalar.remsi v522 v524
  let c0_i32_368 : BitVec 32 := 0#32
  let v527 : BitVec 1 := Scalar.cmpi .slt v525 c0_i32_368
  let c0_i32_369 : BitVec 32 := 0#32
  let v528 : BitVec 1 := Scalar.cmpi .slt v524 c0_i32_369
  let v529 : BitVec 1 := Scalar.xori v527 v528
  let c0_i32_367 : BitVec 32 := 0#32
  let v526 : BitVec 1 := Scalar.cmpi .ne v525 c0_i32_367
  let v530 : BitVec 1 := Scalar.andi v529 v526
  let v531 : BitVec 32 := Scalar.addi v525 v524
  let v532 : BitVec 32 := Scalar.select v530 v531 v525
  let c64_i32_370 : BitVec 32 := 64#32
  let v533 : BitVec 32 := Scalar.muli v532 c64_i32_370
  let c0_i32_377 : BitVec 32 := 0#32
  ![v533.toNat, 0]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Mesh.lean ====
/-
# The mesh of sixteen devices, the semaphores, the scratch slots and the row blocks

Device `c` sends to `tgt c k` at its `k`-th transfer, and the `k`-th landing in its own scratch comes from
`frm c k`. A scratch buffer has one slot per sender; the staged block of `x` has one block of 64 rows per receiver.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Rounds.Family
public import Idealize.ShloMosaic.Lib.Ring
public import Idealize.ShloMosaic.Lib.ValueLayout
public import Idealize.ShloMosaic.Lib.Pipeline.Value
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the pipeline's copy and the exchange's (duties named by `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch: arbitrary contents and generator registers, every counter zero. -/
def s₀ : MemSt nD τ sig (Elt F) := ⟨m, fun _ => 0, ρ⟩

/-! ## Who sends to whom -/

set_option backward.proofsInPublic true in
/-- The receiver of `c`'s `k`-th transfer (and the target of its `k`-th signal). -/
def tgt (c : Dev nD) (k : Fin 15) : Dev nD := ⟨(c.val + k.val + 1) % 16, Nat.mod_lt _ (by decide)⟩
set_option backward.proofsInPublic true in
/-- The sender of the `k`-th transfer into `c`'s scratch. -/
def frm (c : Dev nD) (k : Fin 15) : Dev nD := ⟨(c.val + 15 - k.val) % 16, Nat.mod_lt _ (by decide)⟩

theorem frm_tgt : ∀ (c : Dev nD) (k : Fin 15), frm (tgt c k) k = c := by decide
theorem tgt_frm : ∀ (c : Dev nD) (k : Fin 15), tgt (frm c k) k = c := by decide
theorem tgt_tgt_rev : ∀ (c : Dev nD) (k : Fin 15), tgt (tgt c k) k.rev = c := by decide
theorem tgt_rev : ∀ (c : Dev nD) (k : Fin 15), tgt c k.rev = frm c k := by decide
theorem tgt_inj : ∀ c : Dev nD, Function.Injective (tgt c) := by decide
theorem frm_inj : ∀ c : Dev nD, Function.Injective (frm c) := by decide
theorem tgt_cover : ∀ c : Dev nD, (Finset.univ : Finset (Dev nD)) = insert c (Finset.univ.map ⟨tgt c, tgt_inj c⟩) := by decide
theorem frm_cover : ∀ c : Dev nD, (Finset.univ : Finset (Dev nD)) = insert c (Finset.univ.map ⟨frm c, frm_inj c⟩) := by decide
theorem tgt_self : ∀ c : Dev nD, c ∉ Finset.univ.map ⟨tgt c, tgt_inj c⟩ := by decide
theorem frm_self : ∀ c : Dev nD, c ∉ Finset.univ.map ⟨frm c, frm_inj c⟩ := by decide

/-- The permutation of the devices the `k`-th transfers make. -/
def ring (k : Fin 15) : Dev nD ≃ Dev nD := ⟨fun c => tgt c k, fun c => frm c k, fun c => frm_tgt c k, fun c => tgt_frm c k⟩

/-- Over the devices: `c` and those it sends to. -/
theorem bigSep_tgt {M : Type} [URA M] (c : Dev nD) (Φ : Dev nD → sProp M) :
    bigSep Finset.univ Φ = iprop(Φ c ∗ bigSep Finset.univ fun k => Φ (tgt c k)) := by
  rw [tgt_cover c, bigSep_insert (tgt_self c), bigSep_map]; rfl
/-- Over the devices: `c` and those it hears from. -/
theorem bigSep_frm {M : Type} [URA M] (c : Dev nD) (Φ : Dev nD → sProp M) :
    bigSep Finset.univ Φ = iprop(Φ c ∗ bigSep Finset.univ fun k => Φ (frm c k)) := by
  rw [frm_cover c, bigSep_insert (frm_self c), bigSep_map]; rfl

/-! ## Counting through the fifteen steps -/

/-- The steps still to come when `j` are done, and the steps done. -/
def todo (j : ℕ) : Finset (Fin 15) := Finset.univ.filter fun k => j ≤ k.val
def done (j : ℕ) : Finset (Fin 15) := Finset.univ.filter fun k => k.val < j

theorem todo_zero : todo 0 = Finset.univ := by decide
theorem todo_all : todo 15 = ∅ := by decide
theorem done_zero : done 0 = ∅ := by decide
theorem done_all : done 15 = Finset.univ := by decide
theorem todo_step (j : Fin 15) : todo j.val = insert j (todo (j.val + 1)) := by revert j; decide
theorem todo_notMem (j : Fin 15) : j ∉ todo (j.val + 1) := by revert j; decide
theorem done_step (j : Fin 15) : done (j.val + 1) = insert j (done j.val) := by revert j; decide
theorem done_notMem (j : Fin 15) : j ∉ done j.val := by revert j; decide

theorem bigSep_todo {M : Type} [URA M] (j : Fin 15) (Φ : Fin 15 → sProp M) :
    bigSep (todo j.val) Φ = iprop(Φ j ∗ bigSep (todo (j.val + 1)) Φ) := by
  rw [todo_step j, bigSep_insert (todo_notMem j)]; rfl
theorem bigSep_done {M : Type} [URA M] (j : Fin 15) (Φ : Fin 15 → sProp M) :
    bigSep (done (j.val + 1)) Φ = iprop(Φ j ∗ bigSep (done j.val) Φ) := by
  rw [done_step j, bigSep_insert (done_notMem j)]; rfl

/-! ## The device chains and the offsets the program computes -/

theorem off4_eq : ∀ (c : Dev nD) (r : Fin 15), k0_off4 c (BitVec.ofNat 32 (1 + r.val)) = ![64 * (tgt c r).val, 0] := by decide +kernel
theorem off5_eq : ∀ (c : Dev nD) (r : Fin 15), k0_off5 c (BitVec.ofNat 32 (1 + r.val)) = ![(frm c r).val, 0, 0] := by decide +kernel

/-! ## Memrefs, semaphores, cells -/

abbrev xM : Memref sig .tc .vmem S1024x64 .bf16 := Memref.whole cc0_stg0_0
abbrev wM : Memref sig .tc .vmem S1024x1024 .bf16 := Memref.whole cc0_stg1_0
abbrev oM : Memref sig .tc .vmem S64x1024 .f32 := Memref.whole cc0_stg2_0
abbrev rM : Memref sig .tc .vmem S16x64x64 .bf16 := Memref.whole cc0_scratch0

theorem slot_inb (d : Dev nD) : ∀ a, (![d.val, 0, 0] : Fin 3 → Nat) a + S1x64x64.size a ≤ S16x64x64.size a := by revert d; decide
theorem row_inb (d : Dev nD) : ∀ a, (![64 * d.val, 0] : Fin 2 → Nat) a + S64x64.size a ≤ S1024x64.size a := by revert d; decide

abbrev slotR (d : Dev nD) : Rect S16x64x64 := Rect.unit (s := S16x64x64) ![d.val, 0, 0] S1x64x64.size (slot_inb d)
abbrev rowR (d : Dev nD) : Rect S1024x64 := Rect.unit (s := S1024x64) ![64 * d.val, 0] S64x64.size (row_inb d)

/-- The scratch slot device `d`'s block lands in, and the 64 staged rows meant for device `d`. -/
abbrev slotM (d : Dev nD) : Memref sig .tc .vmem S64x64 .bf16 :=
  (rM.slice (slotR d) (fun _ => rfl)).squeeze S64x64 squeezes_S1x64x64_S64x64
abbrev rowM (d : Dev nD) : Memref sig .tc .vmem S64x64 .bf16 := xM.slice (rowR d) (fun _ => rfl)

abbrev barS : Sem sig := (SemArray.scalar (sig.barrier 0 rfl) : Sems sig S_).sem
set_option backward.proofsInPublic true in
def sendS (k : Fin 15) : DmaSem sig := (⟨3 + k.val, by have := k.isLt; show 3 + k.val < 33; omega⟩ : Fin 33)
set_option backward.proofsInPublic true in
def recvS (k : Fin 15) : DmaSem sig := (⟨18 + k.val, by have := k.isLt; show 18 + k.val < 33; omega⟩ : Fin 33)

theorem sendS_inj : Function.Injective sendS := by decide
theorem recvS_inj : Function.Injective recvS := by decide
theorem send_ne_recv : ∀ k k' : Fin 15, sendS k ≠ recvS k' := by decide

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The kernel's own semaphores: the fifteen send ones and the fifteen receive ones; with the barrier, all it waits on. -/
abbrev OI : Type := Fin 15 ⊕ Fin 15
abbrev CI : Type := Unit ⊕ OI
def osem : OI → SemLoc sig := fun | .inl k => .dma (sendS k) | .inr k => .dma (recvS k)
def csem : CI → SemLoc sig := fun | .inl _ => .reg barS | .inr k => osem k
abbrev kcell (ck : Dev nD × CI) : GSem nD τ sig := ((ck.1 : Thread nD τ), csem ck.2)

abbrev bI : CI := .inl ()
abbrev sI (k : Fin 15) : CI := .inr (.inl k)
abbrev rI (k : Fin 15) : CI := .inr (.inr k)

/-- What one block's landing credits. -/
abbrev N : ℕ := (slotM (0 : Dev nD)).view.dmaCredit
theorem N_pos : 0 < N := View.dmaCredit_pos _ (by decide)
theorem N_slot (d : Dev nD) : (slotM d).view.dmaCredit = N := rfl

/-! ## The parts of the buffers -/

/-- A scratch index lies in slot `d` exactly when its first coordinate is `d`. -/
theorem mem_slot (d : Dev nD) (i : S16x64x64.Idx) : i ∈ (slotM d).view.set ↔ (i 0).val = d.val := by
  have h1 : (slotM d).view.set = (slotR d).set := by
    show ((rM.view.slice (slotR d)).reshape S64x64 _).set = _
    rw [View.set_reshape]; exact View.set_slice_whole _ _
  rw [h1, Rect.mem_set_unit]
  constructor
  · intro h
    have := h 0
    simp only [Matrix.cons_val_zero] at this
    have h2 : S1x64x64.size 0 = 1 := rfl
    omega
  · intro h a
    have h0 : S1x64x64.size 0 = 1 := rfl
    have h1 : S1x64x64.size 1 = 64 := rfl
    have h2 : S1x64x64.size 2 = 64 := rfl
    have l1 : (i 1).val < 64 := (i 1).isLt
    have l2 : (i 2).val < 64 := (i 2).isLt
    fin_cases a
    · show d.val ≤ (i 0).val ∧ (i 0).val < d.val + 1; omega
    · show 0 ≤ (i 1).val ∧ (i 1).val < 0 + 64; omega
    · show 0 ≤ (i 2).val ∧ (i 2).val < 0 + 64; omega

/-- A staged index lies in row block `d` exactly when its row does. -/
theorem mem_row (d : Dev nD) (i : S1024x64.Idx) : i ∈ (rowM d).view.set ↔ (i 0).val / 64 = d.val := by
  have h1 : (rowM d).view.set = (rowR d).set := View.set_slice_whole _ _
  rw [h1, Rect.mem_set_unit]
  constructor
  · intro h
    have h0 : 64 * d.val ≤ (i 0).val ∧ (i 0).val < 64 * d.val + 64 := h 0
    omega
  · intro h a
    have l1 : (i 1).val < 64 := (i 1).isLt
    fin_cases a
    · show 64 * d.val ≤ (i 0).val ∧ (i 0).val < 64 * d.val + 64; omega
    · show 0 ≤ (i 1).val ∧ (i 1).val < 0 + 64; omega

theorem slot_disjoint (d d' : Dev nD) (h : d ≠ d') : Disjoint (slotM d).view.set (slotM d').view.set :=
  Finset.disjoint_left.mpr fun i hi hi' => h (Fin.ext (((mem_slot d i).mp hi).symm.trans ((mem_slot d' i).mp hi')))
theorem row_disjoint (d d' : Dev nD) (h : d ≠ d') : Disjoint (rowM d).view.set (rowM d').view.set :=
  Finset.disjoint_left.mpr fun i hi hi' => h (Fin.ext (((mem_row d i).mp hi).symm.trans ((mem_row d' i).mp hi')))
theorem slot_cover (i : S16x64x64.Idx) : ∃ d, i ∈ (slotM d).view.set := ⟨⟨(i 0).val, (i 0).isLt⟩, (mem_slot _ i).mpr rfl⟩
theorem row_cover (i : S1024x64.Idx) : ∃ d, i ∈ (rowM d).view.set :=
  ⟨⟨(i 0).val / 64, by have : (i 0).val < 1024 := (i 0).isLt; show _ < 16; omega⟩, (mem_row _ i).mpr rfl⟩

/-! ## Contents -/

/-- What the pipeline stages on device `c`: its blocks of `x` and `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

set_option backward.proofsInPublic true in
/-- The staged index of row `p`, column `q` of the row block meant for device `c`. -/
def rowIdx (c : Dev nD) (p q : Fin 64) : S1024x64.Idx :=
  Shape.pair (d := ![1024, 64]) (⟨64 * c.val + p.val, by have := c.isLt; have : c.val < 16 := c.isLt; show _ < 1024; have := p.isLt; omega⟩ : Fin 1024) q

/-- What device `c`'s scratch holds when every block has landed: in slot `s`, sender `s`'s rows for `c`. -/
def landed (c : Dev nD) : (cc0_scratch0 : Ref sig .tc).ty.Contents (Elt F) := fun (i : S16x64x64.Idx) =>
  xstg m ρ (i 0) (rowIdx c (i 1) (i 2))

omit [FloatOps F] in
/-- Where slot `d`'s element `y` lies in the scratch. -/
theorem slot_emb (d : Dev nD) (p q : Fin 64) : (slotM d).view.emb (ix2 p q : S64x64.Idx) = (ix3 (d : Fin 16) p q : S16x64x64.Idx) := by
  show (rM.view.slice (slotR d)).emb (Shape.reshapeEquiv _ (ix2 p q)) = _
  rw [reshapeEquiv_ix2_1ab]
  funext a
  refine Fin.ext ?_
  refine (ValueKit.view_emb_slice_whole_unit_val cc0_scratch0 _ _ _ _ a).trans ?_
  fin_cases a
  · show d.val + 0 = d.val; rfl
  · show 0 + p.val = p.val; omega
  · show 0 + q.val = q.val; omega

omit [FloatOps F] in
/-- Where row block `d`'s element `y` lies in the staged block of `x`. -/
theorem row_emb (d : Dev nD) (p q : Fin 64) : (rowM d).view.emb (ix2 p q : S64x64.Idx) = rowIdx d p q := by
  funext a
  refine Fin.ext ?_
  refine (ValueKit.view_emb_slice_whole_unit_val cc0_stg0_0 _ _ _ _ a).trans ?_
  fin_cases a
  · show 64 * d.val + p.val = 64 * d.val + p.val; rfl
  · show 0 + q.val = q.val; omega

omit [FloatOps F] in
/-- Device `s`'s rows for `d`, written into slot `s` of `d`'s scratch, are what `landed d` says of that slot. -/
theorem landed_eq (s d : Dev nD) (fd : (cc0_scratch0 : Ref sig .tc).ty.Contents (Elt F)) :
    ∀ i ∈ (slotM s).view.set,
      (slotM s).view.write (Elt F) fd ((rowM d).view.read (Elt F) (xstg m ρ s)) Finset.univ i = landed m ρ d i := by
  intro i hi
  obtain ⟨y, rfl⟩ := View.exists_emb_of_mem_set _ hi
  rw [View.write_emb_of_mem _ _ (Finset.mem_univ y), View.read_apply]
  obtain ⟨p, q, rfl⟩ : ∃ p q, y = (ix2 p q : S64x64.Idx) := ⟨y 0, y 1, by funext a; fin_cases a <;> rfl⟩
  rw [row_emb, slot_emb]
  rfl

end Cert.Exchange

end
-- ==== Proof.Sched.lean ====
/-
# The protocol: what each semaphore's units carry, what each device owes, the order of the waits

A device's barrier takes fifteen units, one per peer; each unit hands over the peer's scratch slot the device will
write. A receive semaphore takes one landing, which hands over the slot filled; a send semaphore takes one departure,
which hands the rows back.
-/
module

public import proofs.«01_k».proof.Proof.Mesh

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ownership of a slot and of a row block -/

/-- Slot `s` of device `c`'s scratch, at contents `f`. -/
def slotPts (c s : Dev nD) (f : Buf (Elt F) ((c : Thread nD τ).loc cc0_scratch0)) : sProp 𝕄 :=
  ((c : Thread nD τ).loc cc0_scratch0) ↦[(slotM s).view.set]{fullShare} f
/-- The staged rows device `c` holds for device `d`. -/
def rowPts (c d : Dev nD) : sProp 𝕄 :=
  ((c : Thread nD τ).loc cc0_stg0_0) ↦[(rowM d).view.set]{fullShare} xstg m ρ c

omit [FloatOps F] in
instance slotPts_storable (c s : Dev nD) (f) : BI.Storable (upEmb : UEmb _ 𝕄) (slotPts (F := F) c s f) := by unfold slotPts; infer_instance
omit [FloatOps F] in
instance rowPts_storable (c d : Dev nD) : BI.Storable (upEmb : UEmb _ 𝕄) (rowPts (F := F) m ρ c d) := by unfold rowPts; infer_instance

omit [FloatOps F] in
/-- The whole scratch is its own device's slot and those of the devices it hears from. -/
theorem scratch_slots (c : Dev nD) (f : Buf (Elt F) ((c : Thread nD τ).loc cc0_scratch0)) :
    (((c : Thread nD τ).loc cc0_scratch0) ↦{fullShare} f : sProp 𝕄)
      = bigSep Finset.univ fun s => slotPts c s f := by
  refine (Ring.pointsTo_blocks (ℓ := (c : Thread nD τ).loc cc0_scratch0) (fun s : Dev nD => (slotM s).view.set) slot_disjoint ?_ f).trans rfl
  ext i; simp only [Finset.mem_biUnion, Finset.mem_univ, true_and, iff_true]; exact slot_cover i
omit [FloatOps F] in
/-- The whole staged block of `x` is the row blocks of the sixteen devices. -/
theorem staged_rows (c : Dev nD) :
    (((c : Thread nD τ).loc cc0_stg0_0) ↦{fullShare} xstg m ρ c : sProp 𝕄) = bigSep Finset.univ fun d => rowPts m ρ c d := by
  refine (Ring.pointsTo_blocks (ℓ := (c : Thread nD τ).loc cc0_stg0_0) (fun d : Dev nD => (rowM d).view.set) row_disjoint ?_ _).trans rfl
  ext i; simp only [Finset.mem_biUnion, Finset.mem_univ, true_and, iff_true]; exact row_cover i

/-! ## The schedule of the cells: one round each -/

/-- Which of the kernel's cells a semaphore is. -/
def role : SemLoc sig → Option CI
  | .reg s => if s = barS then some bI else none
  | .dma q => if h : 3 ≤ (q : Fin 33).val ∧ (q : Fin 33).val < 18 then some (sI ⟨(q : Fin 33).val - 3, by omega⟩)
      else if h : 18 ≤ (q : Fin 33).val then some (rI ⟨(q : Fin 33).val - 18, by have : (q : Fin 33).val < 33 := q.isLt; omega⟩) else none

theorem role_bar : role (.reg barS) = some bI := by decide
theorem role_send : ∀ k : Fin 15, role (.dma (sendS k)) = some (sI k) := by decide
theorem role_recv : ∀ k : Fin 15, role (.dma (recvS k)) = some (rI k) := by decide
theorem role_csem : ∀ i : CI, role (csem i) = some i
  | .inl _ => role_bar | .inr (.inl k) => role_send k | .inr (.inr k) => role_recv k
theorem csem_inj : Function.Injective csem := fun i i' h => by
  have := congrArg role h; rw [role_csem, role_csem] at this; exact Option.some.inj this

/-- What unit `j` of device `a`'s barrier hands over: slot `a` of the device `a`'s `j`-th transfer goes to. -/
def barPay (a : Dev nD) (j : Fin 15) : sProp 𝕄 := iprop(∃ f, slotPts (tgt a j) a f)
/-- What the `k`-th landing hands over: the sender's slot, holding the sender's rows. -/
def recvPay (c : Dev nD) (k : Fin 15) : sProp 𝕄 := slotPts c (frm c k) (landed m ρ c)
/-- What the `k`-th transfer's departure hands back: the rows it read. -/
def sendPay (c : Dev nD) (k : Fin 15) : sProp 𝕄 := rowPts m ρ c (tgt c k)

def dutiesAt : Option CI → Finset (Fin 15)
  | some (.inl _) => Finset.univ | some (.inr _) => {0} | none => ∅
def amountAt : Option CI → ℕ
  | some (.inr _) => N | _ => 1
def payAt (c : Dev nD) (d : Fin 15) : Option CI → sProp 𝕄
  | some (.inl _) => barPay c d | some (.inr (.inl k)) => sendPay m ρ c k | some (.inr (.inr k)) => recvPay m ρ c k | none => iprop(emp)

def sched : Rounds.Schedule (GSem nD τ sig) (Fin 15) 𝕄 where
  duties g r := if r = 0 ∧ g.1.2 = .tc then dutiesAt (role g.2) else ∅
  unitless _ := False
  amount g _ _ := amountAt (role g.2)
  payload g _ d := payAt m ρ g.1.1 d (role g.2)
  amount_pos g _ _ _ := by
    show 0 < amountAt (role g.2)
    unfold amountAt; split
    · exact N_pos
    · exact Nat.one_pos

instance sched_storable (g : GSem nD τ sig) (r : ℕ) (d : Fin 15) : BI.Storable (upEmb : UEmb _ 𝕄) ((sched (F := F) m ρ).payload g r d) := by
  show BI.Storable upEmb (payAt m ρ g.1.1 d (role g.2))
  unfold payAt barPay recvPay sendPay
  split <;> infer_instance

section Facts
variable (c : Dev nD) (k : Fin 15)

omit [FloatOps F] in
theorem duties_bar : (sched (F := F) m ρ).duties (barCell c) 0 = Finset.univ := by
  dsimp only [sched]; exact (if_pos ⟨rfl, rfl⟩).trans (congrArg dutiesAt (role_bar))
omit [FloatOps F] in
theorem duties_send : (sched (F := F) m ρ).duties (sendCell c k) 0 = {0} := by
  dsimp only [sched]; exact (if_pos ⟨rfl, rfl⟩).trans (congrArg dutiesAt (role_send k))
omit [FloatOps F] in
theorem duties_recv : (sched (F := F) m ρ).duties (recvCell c k) 0 = {0} := by
  dsimp only [sched]; exact (if_pos ⟨rfl, rfl⟩).trans (congrArg dutiesAt (role_recv k))
omit [FloatOps F] in
theorem duties_later (g : GSem nD τ sig) : ∀ r, 1 ≤ r → (sched (F := F) m ρ).duties g r = ∅ :=
  fun r hr => if_neg fun h => by have := h.1; omega

omit [FloatOps F] in
theorem amount_bar (d : Fin 15) : (sched (F := F) m ρ).amount (barCell c) 0 d = 1 := by
  show amountAt (role (.reg barS)) = _; rw [role_bar]; rfl
omit [FloatOps F] in
theorem amount_send (d : Fin 15) : (sched (F := F) m ρ).amount (sendCell c k) 0 d = N := by
  show amountAt (role (.dma (sendS k))) = _; rw [role_send]; rfl
omit [FloatOps F] in
theorem amount_recv (d : Fin 15) : (sched (F := F) m ρ).amount (recvCell c k) 0 d = N := by
  show amountAt (role (.dma (recvS k))) = _; rw [role_recv]; rfl

omit [FloatOps F] in
theorem payload_bar (d : Fin 15) : (sched (F := F) m ρ).payload (barCell c) 0 d = barPay c d := by
  show payAt m ρ c d (role (.reg barS)) = _; rw [role_bar]; rfl
omit [FloatOps F] in
theorem payload_send (d : Fin 15) : (sched (F := F) m ρ).payload (sendCell c k) 0 d = sendPay m ρ c k := by
  show payAt m ρ c d (role (.dma (sendS k))) = _; rw [role_send]; rfl
omit [FloatOps F] in
theorem payload_recv (d : Fin 15) : (sched (F := F) m ρ).payload (recvCell c k) 0 d = recvPay m ρ c k := by
  show payAt m ρ c d (role (.dma (recvS k))) = _; rw [role_recv]; rfl

omit [FloatOps F] in
theorem expect_bar : (sched (F := F) m ρ).expect (barCell c) 0 = 15 := by
  unfold Schedule.expect Schedule.amountOf
  rw [duties_bar, Finset.sum_congr rfl fun d _ => amount_bar m ρ c d]; rfl
omit [FloatOps F] in
theorem expect_send : (sched (F := F) m ρ).expect (sendCell c k) 0 = N := by
  unfold Schedule.expect Schedule.amountOf; rw [duties_send, Finset.sum_singleton, amount_send]
omit [FloatOps F] in
theorem expect_recv : (sched (F := F) m ρ).expect (recvCell c k) 0 = N := by
  unfold Schedule.expect Schedule.amountOf; rw [duties_recv, Finset.sum_singleton, amount_recv]

omit [FloatOps F] in
theorem rest_bar : bigSep ((sched (F := F) m ρ).duties (barCell c) 0 \ ∅) (fun d => (sched (F := F) m ρ).payload (barCell c) 0 d)
    = bigSep Finset.univ (fun j => (barPay c j : sProp 𝕄)) := by
  rw [Finset.sdiff_empty, duties_bar]; exact bigSep_congr fun d _ => payload_bar m ρ c d
omit [FloatOps F] in
theorem rest_send : bigSep ((sched (F := F) m ρ).duties (sendCell c k) 0 \ ∅) (fun d => (sched (F := F) m ρ).payload (sendCell c k) 0 d) = sendPay m ρ c k := by
  rw [Finset.sdiff_empty, duties_send, bigSep_singleton, payload_send]
omit [FloatOps F] in
theorem rest_recv : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Facts

/-! ## What each device owes, and the order of the waits -/

/-- From step `j` on: the credits `c` still owes the receive cells, and the units it still owes the barriers. -/
def OV (c : Dev nD) (j : ℕ) : CellTallies nD τ sig Unit := ∑ k ∈ todo j, tallyAt (recvCell (tgt c k) k) () N
def OB (c : Dev nD) (j : ℕ) : CellTallies nD τ sig Unit := ∑ k ∈ todo j, tallyAt (barCell (tgt c k)) () 1
def O₀ (c : Dev nD) : CellTallies nD τ sig Unit := OV c 0 + OB c 0

theorem OV_step (c : Dev nD) (j : Fin 15) : OV c j.val = OV c (j.val + 1) + tallyAt (recvCell (tgt c j) j) () N := by
  unfold OV; rw [todo_step j, Finset.sum_insert (todo_notMem j), add_comm]
theorem OB_step (c : Dev nD) (j : Fin 15) : OB c j.val = OB c (j.val + 1) + tallyAt (barCell (tgt c j)) () 1 := by
  unfold OB; rw [todo_step j, Finset.sum_insert (todo_notMem j), add_comm]
theorem OV_all (c : Dev nD) : OV c 15 = 0 := by unfold OV; rw [todo_all, Finset.sum_empty]
theorem OB_all (c : Dev nD) : OB c 15 = 0 := by unfold OB; rw [todo_all, Finset.sum_empty]

def L (g : GSem nD τ sig) : Finset Unit := if g.1.2 = .tc then {()} else ∅
/-- Barriers are waited on before landings; everything else owes nothing to either. -/
def lvAt : Option CI → ℕ
  | some (.inl _) => 1 | some (.inr (.inr _)) => 2 | _ => 0
def lv (g : GSem nD τ sig) (_ : Unit) : ℕ := lvAt (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_recv (c : Dev nD) (k : Fin 15) : lv (recvCell c k) () = 2 := by unfold lv; rw [role_recv]; rfl

theorem OV_pos {c : Dev nD} {j : ℕ} {g : GSem nD τ sig} {u : Unit} (h : 0 < OV c j g u) : ∃ k, g = recvCell (tgt c k) k := by
  unfold OV at h
  rw [Finset.sum_apply, Finsupp.finset_sum_apply] at h
  obtain ⟨k, -, hk⟩ := Finset.exists_ne_zero_of_sum_ne_zero (Nat.pos_iff_ne_zero.mp h)
  refine ⟨k, ?_⟩
  rw [tallyAt_apply] at hk
  by_contra hn
  exact hk (if_neg fun h' => hn h'.1)
theorem OB_pos {c : Dev nD} {j : ℕ} {g : GSem nD τ sig} {u : Unit} (h : 0 < OB c j g u) : ∃ k, g = barCell (tgt c k) := by
  unfold OB at h
  rw [Finset.sum_apply, Finsupp.finset_sum_apply] at h
  obtain ⟨k, -, hk⟩ := Finset.exists_ne_zero_of_sum_ne_zero (Nat.pos_iff_ne_zero.mp h)
  refine ⟨k, ?_⟩
  rw [tallyAt_apply] at hk
  by_contra hn
  exact hk (if_neg fun h' => hn h'.1)
theorem O₀_pos {c : Dev nD} {g : GSem nD τ sig} {u : Unit} (h : 0 < O₀ c g u) : (∃ d k, g = recvCell d k) ∨ ∃ d, g = barCell d := by
  unfold O₀ at h
  rw [Pi.add_apply, Finsupp.add_apply] at h
  rcases Nat.add_pos_iff_pos_or_pos.mp h with h | h
  · obtain ⟨k, e⟩ := OV_pos h; exact .inl ⟨_, k, e⟩
  · obtain ⟨k, e⟩ := OB_pos h; exact .inr ⟨_, e⟩

omit [FloatOps F] in
/-- A staging semaphore may be waited on whatever the device owes. -/
theorem mayWait_stage (c : Dev nD) (q : SemLoc sig) (hq : role q = none) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; show lvAt (role q) ≤ 0; rw [hq]; exact Nat.le_refl 0)
      (fun g u hg => by
        rcases O₀_pos hg with ⟨d, k, rfl⟩ | ⟨d, rfl⟩
        · cases u; rw [lv_recv]; decide
        · cases u; rw [lv_bar]; decide)
  · rw [MayWait_zero]; iintro -; iempintro

omit [FloatOps F] in
/-- At its barrier a device owes only landings. -/
theorem mayWait_bar (c : Dev nD) : (levAts L lv : sProp 𝕄) ⊢ MayWait (c : Thread nD τ) (.reg barS) () (OV c 0) :=
  MayOwe.of_cut (L := L) (lev := lv) 1 (fun p hp => by rw [Finset.mem_singleton.mp hp, L_tc]; exact Finset.mem_singleton_self _)
    (fun g u hg => by obtain ⟨k, rfl⟩ := OV_pos hg; exact Finset.mem_singleton_self _)
    (fun p hp => by rw [Finset.mem_singleton.mp hp]; exact (lv_bar c).le)
    (fun g u hg => by obtain ⟨k, rfl⟩ := OV_pos hg; cases u; rw [lv_recv]; decide)

end Cert.Exchange

end
-- ==== Proof.Steps.lean ====
/-
# One step of each phase

The kernel runs four phases of fifteen like steps — signals, transfers, landings, departures — with the barrier's wait
after the first. Each phase has one state, indexed by the steps done, and one lemma that takes a step.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device may rely on -/

/-- Every cell's invariant, and that every cell has reached its one round. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

omit [FloatOps F] in
theorem inv_at (ck : Dev nD × CI) : records m ρ K ⊢ cellInv ER (sched m ρ) (K ck) (kcell ck) := by
  unfold records; iintro ⟨H, -⟩
  iapply (show (bigSep Finset.univ fun ck : Dev nD × CI => (cellInv ER (sched m ρ) (K ck) (kcell ck) : sProp 𝕄)) ⊢ cellInv ER (sched m ρ) (K ck) (kcell ck)
    from bigSep_elim (Finset.mem_univ ck)); iexact H
omit [FloatOps F] in
theorem reached_at (ck : Dev nD × CI) : records m ρ K ⊢ (reached ER (kcell ck) 0 : sProp 𝕄) := by
  unfold records; iintro ⟨-, H⟩
  iapply (show (bigSep Finset.univ fun ck : Dev nD × CI => (reached ER (kcell ck) 0 : sProp 𝕄)) ⊢ reached ER (kcell ck) 0
    from bigSep_elim (Finset.mem_univ ck)); iexact H

variable (c : Dev nD)

/-! ## The fifteen signals -/

/-- Before signal `j`: the units and landings still owed; for each signal to come, its duty's token and the slot it hands over. -/
def SigSt (j : ℕ) : sProp 𝕄 :=
  iprop((∃ W, owes (c : Thread nD τ) (OV c 0 + OB c j) W)
    ∗ bigSep (todo j) fun k => iprop(dutyTok ER (barCell (tgt c k)) 0 k.rev ∗ ∃ f, slotPts c (tgt c k) f))

theorem sig_step (n : Dev nD) (j : Fin 15) (hn : n = tgt c j) {w : ℕ} (hw : 1 = w)
    {α : Type} {Q : α → sProp 𝕄} {k : PUnit → Prog (TpuEff nD τ sig (Elt F) Λ₀ .tc) α} :
    iprop(records m ρ K ∗ SigSt c j.val)
      ⊢ iprop((SigSt c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS w) k) Q) := by
  subst hn hw
  unfold SigSt
  rw [bigSep_todo j]
  iintro ⟨#HR, ⟨%W, HO⟩, ⟨Ht, Hs⟩, Hrest⟩ Hk
  iapply (Rounds.wp_signal 𝒱₀ ER (sched m ρ) (c : Thread nD τ) none (dst := (tgt c j : Thread nD τ)) (κ := K (tgt c j, bI))
      (r := 0) (d := j.rev) (by rw [duties_bar]; exact Finset.mem_univ _) (amount_bar m ρ (tgt c j) j.rev) () (O₀ := OV c 0 + OB c j.val) (OV c 0 + OB c (j.val + 1))
      (by rw [OB_step c j, add_assoc]) (W := W)) $$ [HO Ht Hs]
  · isplitr; · iapply (inv_at m ρ K (tgt c j, bI)); iexact HR
    isplitl [HO]; · iexact HO
    isplitl [Ht]; · iexact Ht
    isplitl [Hs]
    · rw [payload_bar]; unfold barPay; rw [tgt_tgt_rev]; iexact Hs
    · iapply (reached_at m ρ K (tgt c j, bI)); iexact HR
  iintro HO
  iapply Hk
  isplitl [HO]; · iexists W; iexact HO
  iexact Hrest

/-! ## The barrier -/

theorem bar_step {w : ℕ} (hw : 15 = w) {α : Type} {Q : α → sProp 𝕄} {k : PUnit → Prog (TpuEff nD τ sig (Elt F) Λ₀ .tc) α} :
    iprop(records m ρ K ∗ levAts L lv ∗ SigSt c 15 ∗ cred (tallyAt (barCell c) () 15) ∗ atPos ER (barCell c) 0 ∅ 0)
      ⊢ iprop((((∃ W, owes (c : Thread nD τ) (OV c 0) W) ∗ atPos ER (barCell c) 1 ∅ 0 ∗ bigSep Finset.univ fun j => iprop(∃ f, slotPts (tgt c j) c f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  unfold SigSt
  rw [OB_all, add_zero]
  iintro ⟨#HR, #Hlev, ⟨⟨%W, HO⟩, -⟩, Hc, Hat⟩ Hk
  iapply (Rounds.wp_wait_rest_token 𝒱₀ ER (sched m ρ) (c : Thread nD τ) none (κ := K (c, bI))
      (wpE_semWait_eq 𝒱₀ (c : Thread nD τ) none Set.univ) (Set.mem_univ _) () (O := OV c 0) (W := W) (R := 0) (m := 0) (T := ∅)
      (by rw [expect_bar])) $$ [Hc HO Hat]
  · isplitr; · iapply (inv_at m ρ K (c, bI)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  unfold barPay; iexact Hp

/-! ## The fifteen transfers -/

/-- Before transfer `j`: the landings still owed; for each transfer to come, its rows, the slot it writes and its two
    duties' tokens; for each one made, the credit of its departure. -/
def SndSt (j : ℕ) : sProp 𝕄 :=
  iprop((∃ W, owes (c : Thread nD τ) (OV c j) W)
    ∗ (bigSep (todo j) fun k => iprop(rowPts m ρ c (tgt c k) ∗ (∃ f, slotPts (tgt c k) c f)
        ∗ dutyTok ER (sendCell c k) 0 0 ∗ dutyTok ER (recvCell (tgt c k) k) 0 0))
    ∗ bigSep (done j) fun k => cred (tallyAt (sendCell c k) () N))

theorem send_step (n : Dev nD) (j : Fin 15) (hn : n = tgt c j)
    {o₃ : Fin 3 → ℕ} {h₃ : ∀ a, o₃ a + S1x64x64.size a ≤ S16x64x64.size a} (e₃ : o₃ = ![c.val, 0, 0])
    {o₄ : Fin 2 → ℕ} {h₄ : ∀ a, o₄ a + S64x64.size a ≤ S1024x64.size a} (e₄ : o₄ = ![64 * (tgt c j).val, 0])
    {sS rS : DmaSem sig} (hs : sS = sendS j) (hr : rS = recvS j)
    {hsc : ((rM.slice (Rect.unit (s := S16x64x64) o₃ S1x64x64.size h₃) (fun _ => rfl)).squeeze S64x64 squeezes_S1x64x64_S64x64 :
        Memref sig (Dev.tc n : Thread nD τ).2.kind .vmem S64x64 .bf16).view.ref.isScScratch = false}
    {hsrc : (xM.slice (Rect.unit (s := S1024x64) o₄ S64x64.size h₄) (fun _ => rfl) : Memref sig .tc .vmem S64x64 .bf16).view.WordExact}
    {hdst : ((rM.slice (Rect.unit (s := S16x64x64) o₃ S1x64x64.size h₃) (fun _ => rfl)).squeeze S64x64 squeezes_S1x64x64_S64x64 :
        Memref sig .tc .vmem S64x64 .bf16).view.WordExact}
    {hsem : DmaTarget.Typed .vmem (.dma rS) (.remote (Dev.tc n : Thread nD τ)
        ((rM.slice (Rect.unit (s := S16x64x64) o₃ S1x64x64.size h₃) (fun _ => rfl)).squeeze S64x64 squeezes_S1x64x64_S64x64 :
          Memref sig .tc .vmem S64x64 .bf16) (.dma sS) hsc)}
    {α : Type} {Q : α → sProp 𝕄} {k : PUnit → Prog (TpuEff nD τ sig (Elt F) Λ₀ .tc) α} :
    iprop(records m ρ K ∗ SndSt m ρ c j.val)
      ⊢ iprop((SndSt m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S1024x64) o₄ S64x64.size h₄) (fun _ => rfl))
                (.remote (Dev.tc n : Thread nD τ)
                  ((rM.slice (Rect.unit (s := S16x64x64) o₃ S1x64x64.size h₃) (fun _ => rfl)).squeeze S64x64 squeezes_S1x64x64_S64x64)
                  (.dma sS) hsc) (.dma rS) hsrc hdst hsem) k) Q) := by
  subst hn e₃ e₄ hs hr
  unfold SndSt
  rw [bigSep_todo j, bigSep_done j]
  iintro ⟨#HR, ⟨%W, HO⟩, ⟨⟨Hx, ⟨%f, Hs⟩, HtS, HtV⟩, Hrest⟩, Hdone⟩ Hk
  iapply (Rounds.wp_send_pointsTo 𝒱₀ ER (sched m ρ) (c : Thread nD τ) none (c' := (Dev.tc (tgt c j) : Thread nD τ)) (src := rowM (tgt c j)) (dst := slotM c)
      (sS := .dma (sendS j)) (sem := .dma (recvS j))
      (κ₁ := K (c, sI j)) (κ₂ := K (tgt c j, rI j)) (q := fullShare) (fs := xstg m ρ c)
      (r₁ := 0) (r₂ := 0) (d₁ := 0) (d₂ := 0) (fd := f)
      (by rw [duties_send]; exact Finset.mem_singleton_self _) (by rw [duties_recv]; exact Finset.mem_singleton_self _)
      () () N rfl (amount_send m ρ c j 0) (amount_recv m ρ (tgt c j) j 0) (OV c (j.val + 1)) (OV_step c j) (W := W)
      (by rw [payload_send]; exact BI.Entails.refl _)
      (by
        rw [payload_recv]; unfold recvPay slotPts; rw [frm_tgt]
        exact Entails.of_eq (pointsTo_congr (landed_eq m ρ c (tgt c j) f)))) $$ [HO Hx Hs HtS HtV]
  · isplitr; · iapply (inv_at m ρ K (c, sI j)); iexact HR
    isplitr; · iapply (inv_at m ρ K (tgt c j, rI j)); iexact HR
    isplitl [Hx]; · unfold rowPts; iexact Hx
    isplitl [Hs]; · unfold slotPts; iexact Hs
    isplitl [HO]; · iexact HO
    isplitl [HtS]; · iexact HtS
    isplitr; · iapply (reached_at m ρ K (c, sI j)); iexact HR
    isplitl [HtV]; · iexact HtV
    iapply (reached_at m ρ K (tgt c j, rI j)); iexact HR
  iintro ⟨Hc, HO⟩
  iapply Hk
  isplitl [HO]; · iexists W; iexact HO
  isplitl [Hrest]; · iexact Hrest
  isplitl [Hc] <;> iassumption

/-! ## The fifteen landings -/

/-- Before the wait for landing `j`: for each to come, its credit and the cell's position; for each come, the position
    after it and the sender's slot filled. -/
def RcvSt (j : ℕ) : sProp 𝕄 :=
  iprop((∃ W, owes (c : Thread nD τ) (0 : CellTallies nD τ sig Unit) W)
    ∗ (bigSep (todo j) fun k => iprop(cred (tallyAt (recvCell c k) () N) ∗ atPos ER (recvCell c k) 0 ∅ 0))
    ∗ bigSep (done j) fun k => iprop(atPos ER (recvCell c k) 1 ∅ 0 ∗ slotPts c (frm c k) (landed m ρ c)))

theorem recv_step (j : Fin 15) {rS : DmaSem sig} (hr : rS = recvS j) {src dst : Memref sig .tc .vmem S64x64 .bf16}
    {o : Fin 3 → ℕ} {h : ∀ a, o a + S1x64x64.size a ≤ S16x64x64.size a}
    (hd : dst = (rM.slice (Rect.unit (s := S16x64x64) o S1x64x64.size h) (fun _ => rfl)).squeeze S64x64 squeezes_S1x64x64_S64x64) {hsrc : src.view.WordExact} {hdst : dst.view.WordExact}
    {α : Type} {Q : α → sProp 𝕄} {k : PUnit → Prog (TpuEff nD τ sig (Elt F) Λ₀ .tc) α} :
    iprop(records m ρ K ∗ RcvSt m ρ c j.val)
      ⊢ iprop((RcvSt m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hr
  have hN : dst.view.dmaCredit = N := by subst hd; rfl
  unfold RcvSt
  rw [bigSep_todo j, bigSep_done j]
  iintro ⟨#HR, ⟨%W, HO⟩, ⟨⟨Hc, Hat⟩, Hrest⟩, Hdone⟩ Hk
  iapply (Rounds.wp_wait_rest_token 𝒱₀ ER (sched m ρ) (c : Thread nD τ) none (κ := K (c, rI j))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at m ρ K (c, rI j)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c j)) $$ Hpay
  iapply Hk
  isplitl [HO]; · iexists _; iexact HO
  isplitl [Hrest]; · iexact Hrest
  isplitl [Hat Hp]
  · isplitl [Hat]; · iexact Hat
    unfold recvPay; iexact Hp
  iexact Hdone

/-! ## The fifteen departures -/

/-- Before the wait for departure `j`: for each to come, its credit and the cell's position; for each past, the position
    after it and the rows back. -/
def DepSt (j : ℕ) : sProp 𝕄 :=
  iprop((∃ W, owes (c : Thread nD τ) (0 : CellTallies nD τ sig Unit) W)
    ∗ (bigSep (todo j) fun k => iprop(cred (tallyAt (sendCell c k) () N) ∗ atPos ER (sendCell c k) 0 ∅ 0))
    ∗ bigSep (done j) fun k => iprop(atPos ER (sendCell c k) 1 ∅ 0 ∗ rowPts m ρ c (tgt c k)))

theorem dep_step (j : Fin 15) {sS : DmaSem sig} (hs : sS = sendS j) {src dst : Memref sig .tc .vmem S64x64 .bf16}
    {o : Fin 2 → ℕ} {h : ∀ a, o a + S64x64.size a ≤ S1024x64.size a}
    (hd : dst = xM.slice (Rect.unit (s := S1024x64) o S64x64.size h) (fun _ => rfl)) {hsrc : src.view.WordExact} {hdst : dst.view.WordExact}
    {α : Type} {Q : α → sProp 𝕄} {k : PUnit → Prog (TpuEff nD τ sig (Elt F) Λ₀ .tc) α} :
    iprop(records m ρ K ∗ DepSt m ρ c j.val)
      ⊢ iprop((DepSt m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hs
  have hN : dst.view.dmaCredit = N := by subst hd; rfl
  unfold DepSt
  rw [bigSep_todo j, bigSep_done j]
  iintro ⟨#HR, ⟨%W, HO⟩, ⟨⟨Hc, Hat⟩, Hrest⟩, Hdone⟩ Hk
  iapply (Rounds.wp_wait_rest_token 𝒱₀ ER (sched m ρ) (c : Thread nD τ) none (κ := K (c, sI j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at m ρ K (c, sI j)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c j)) $$ Hpay
  iapply Hk
  isplitl [HO]; · iexists _; iexact HO
  isplitl [Hrest]; · iexact Hrest
  isplitl [Hat Hp]
  · isplitl [Hat]; · iexact Hat
    unfold sendPay; iexact Hp
  iexact Hdone

end Cert.Exchange

end
-- ==== Proof.Phases.lean ====
/-
# Between the phases, and the loads and stores

How one phase's state becomes the next one's; the store of a device's own block into its own slot; the loads of a
filled slot and of a block of rows of `w`; the result the body computes.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## From one phase to the next -/

omit [FloatOps F] in
theorem sig_intro : iprop((∃ W, owes (c : Thread nD τ) (O₀ c) W)
      ∗ (bigSep Finset.univ fun k => dutyTok ER (barCell (tgt c k)) 0 k.rev) ∗ bigSep Finset.univ fun k => iprop(∃ f, slotPts c (tgt c k) f))
    ⊢ (SigSt c 0 : sProp 𝕄) := by
  unfold SigSt; rw [todo_zero, bigSep_sep']; exact BI.Entails.refl _

omit [FloatOps F] in
/-- The scratch, whole: its own device's slot and the slots its device hands over. -/
theorem scratch_split (f : Buf (Elt F) ((c : Thread nD τ).loc cc0_scratch0)) : (((c : Thread nD τ).loc cc0_scratch0) ↦{fullShare} f : sProp 𝕄)
    ⊢ iprop(slotPts c c f ∗ bigSep Finset.univ fun k => iprop(∃ f, slotPts c (tgt c k) f)) := by
  rw [scratch_slots, bigSep_tgt c]
  refine sep_mono_right (bigSep_mono fun k _ => ?_)
  show (slotPts c (tgt c k) f : sProp 𝕄) ⊢ iprop(∃ f, slotPts c (tgt c k) f)
  iintro H; iexists f; iexact H

omit [FloatOps F] in
theorem send_intro : iprop((∃ W, owes (c : Thread nD τ) (OV c 0) W)
      ∗ (bigSep Finset.univ fun k => rowPts m ρ c (tgt c k)) ∗ (bigSep Finset.univ fun k => iprop(∃ f, slotPts (tgt c k) c f))
      ∗ (bigSep Finset.univ fun k => dutyTok ER (sendCell c k) 0 0) ∗ bigSep Finset.univ fun k => dutyTok ER (recvCell (tgt c k) k) 0 0)
    ⊢ (SndSt m ρ c 0 : sProp 𝕄) := by
  unfold SndSt; rw [todo_zero, done_zero, bigSep_empty]; simp only [bigSep_sep']
  iintro ⟨H1, H2, H3, H4, H5⟩
  isplitl [H1]; · iexact H1
  isplitl [H2 H3 H4 H5]
  · isplitl [H2]; · iexact H2
    isplitl [H3]; · iexact H3
    isplitl [H4] <;> iassumption
  iempintro

omit [FloatOps F] in
theorem send_exit : (SndSt m ρ c 15 : sProp 𝕄) ⊢ iprop((∃ W, owes (c : Thread nD τ) (0 : CellTallies nD τ sig Unit) W)
      ∗ bigSep Finset.univ fun k => cred (tallyAt (sendCell c k) () N)) := by
  unfold SndSt; rw [OV_all, done_all]
  iintro ⟨H1, -, H3⟩
  isplitl [H1] <;> iassumption

omit [FloatOps F] in
theorem recv_intro : iprop((∃ W, owes (c : Thread nD τ) (0 : CellTallies nD τ sig Unit) W)
      ∗ (bigSep Finset.univ fun k => cred (tallyAt (recvCell c k) () N)) ∗ bigSep Finset.univ fun k => atPos ER (recvCell c k) 0 ∅ 0)
    ⊢ (RcvSt m ρ c 0 : sProp 𝕄) := by
  unfold RcvSt; rw [todo_zero, done_zero, bigSep_empty, bigSep_sep']
  iintro ⟨H1, H2, H3⟩
  isplitl [H1]; · iexact H1
  isplitl [H2 H3]
  · isplitl [H2] <;> iassumption
  iempintro

omit [FloatOps F] in
theorem recv_exit : (RcvSt m ρ c 15 : sProp 𝕄) ⊢ iprop((∃ W, owes (c : Thread nD τ) (0 : CellTallies nD τ sig Unit) W)
      ∗ (bigSep Finset.univ fun k => atPos ER (recvCell c k) 1 ∅ 0) ∗ bigSep Finset.univ fun k => slotPts c (frm c k) (landed m ρ c)) := by
  unfold RcvSt; rw [done_all]; simp only [bigSep_sep']
  iintro ⟨H1, -, H3⟩
  isplitl [H1] <;> iassumption

omit [FloatOps F] in
theorem dep_intro : iprop((∃ W, owes (c : Thread nD τ) (0 : CellTallies nD τ sig Unit) W)
      ∗ (bigSep Finset.univ fun k => cred (tallyAt (sendCell c k) () N)) ∗ bigSep Finset.univ fun k => atPos ER (sendCell c k) 0 ∅ 0)
    ⊢ (DepSt m ρ c 0 : sProp 𝕄) := by
  unfold DepSt; rw [todo_zero, done_zero, bigSep_empty, bigSep_sep']
  iintro ⟨H1, H2, H3⟩
  isplitl [H1]; · iexact H1
  isplitl [H2 H3]
  · isplitl [H2] <;> iassumption
  iempintro

omit [FloatOps F] in
theorem dep_exit : (DepSt m ρ c 15 : sProp 𝕄) ⊢ iprop((∃ W, owes (c : Thread nD τ) (0 : CellTallies nD τ sig Unit) W)
      ∗ (bigSep Finset.univ fun k => atPos ER (sendCell c k) 1 ∅ 0) ∗ bigSep Finset.univ fun k => rowPts m ρ c (tgt c k)) := by
  unfold DepSt; rw [done_all]; simp only [bigSep_sep']
  iintro ⟨H1, -, H3⟩
  isplitl [H1] <;> iassumption

omit [FloatOps F] in
/-- The scratch, whole again: the device's own slot and those it heard from. -/
theorem scratch_join : iprop(slotPts c c (landed m ρ c) ∗ bigSep Finset.univ fun k => slotPts c (frm c k) (landed m ρ c))
    ⊢ (((c : Thread nD τ).loc cc0_scratch0) ↦{fullShare} landed m ρ c : sProp 𝕄) := by
  rw [scratch_slots, bigSep_frm c]

omit [FloatOps F] in
/-- The staged block of `x`, whole: the rows kept and the rows sent. -/
theorem staged_eq : (((c : Thread nD τ).loc cc0_stg0_0) ↦{fullShare} xstg m ρ c : sProp 𝕄)
    = iprop(rowPts m ρ c c ∗ bigSep Finset.univ fun k => rowPts m ρ c (tgt c k)) := by
  rw [staged_rows, bigSep_tgt c]

omit [FloatOps F] in
theorem bigSep_CI (Φ : CI → sProp 𝕄) : bigSep Finset.univ Φ
    = iprop(Φ bI ∗ (bigSep Finset.univ fun k => Φ (sI k)) ∗ bigSep Finset.univ fun k => Φ (rI k)) := by
  rw [BI.bigSep_univ_sum, BI.bigSep_univ_sum, show (Finset.univ : Finset Unit) = {()} from rfl, bigSep_singleton]; rfl

omit [FloatOps F] in
/-- When each cell's one round is over its counter is the device's again, at zero. -/
theorem close_cells : iprop(records m ρ K ∗ atPos ER (barCell c) 1 ∅ 0 ∗ (bigSep Finset.univ fun k => atPos ER (sendCell c k) 1 ∅ 0)
      ∗ bigSep Finset.univ fun k => atPos ER (recvCell c k) 1 ∅ 0)
    ⊢ (|={Set.univ}=> bigSep Finset.univ fun i : CI => semVal (kcell (c, i)) 0 : sProp 𝕄) := by
  refine BI.Entails.trans ?_ (Rounds.cells_close ER (sched m ρ) Finset.univ (fun i : CI => kcell (c, i)) (fun i => K (c, i))
    (fun _ _ => Set.mem_univ _) (fun _ _ h => h) (fun _ => 1) (fun i _ => duties_later m ρ (kcell (c, i))))
  refine BI.Entails.trans ?_ (BI.bigSep_with_persistent (R := records m ρ K) (Φ := fun i : CI => atPos ER (kcell (c, i)) 1 ∅ 0) fun i _ => ?_)
  · rw [bigSep_CI]; exact BI.Entails.refl _
  · iintro ⟨#HR, Ha⟩
    isplitr; · iapply (inv_at m ρ K (c, i)); iexact HR
    iexact Ha

/-! ## The store of a device's own block -/

omit [FloatOps F] in
theorem own_set : ((rM : Memref sig .tc .vmem S16x64x64 .bf16).access (slotR c)).set = (slotM c).view.set :=
  (View.set_reshape _ _).symm

/-- The own rows, stored into the own slot, are what `landed` says of it. -/
theorem own_eq (f : (cc0_scratch0 : Ref sig .tc).ty.Contents (Elt F)) : ∀ i ∈ (slotM c).view.set,
    ((rM : Memref sig .tc .vmem S16x64x64 .bf16).access (slotR c)).write (Elt F) f
      (k0_pay2 ((xM : Memref sig .tc .vmem S1024x64 .bf16).view.readAt (Elt F) (rowR c).toLoadRect (xstg m ρ c))) Finset.univ i = landed m ρ c i := by
  intro i hi
  obtain ⟨y, rfl⟩ := View.exists_emb_of_mem_set _ hi
  obtain ⟨p, q, rfl⟩ : ∃ p q, y = (ix2 p q : S64x64.Idx) := ⟨y 0, y 1, by funext a; fin_cases a <;> rfl⟩
  have he : (slotM c).view.emb (ix2 p q : S64x64.Idx) = ((rM : Memref sig .tc .vmem S16x64x64 .bf16).access (slotR c)).emb (ix3 (0 : Fin 1) p q : S1x64x64.Idx) := by
    show (rM.view.slice (slotR c)).emb (Shape.reshapeEquiv _ (ix2 p q)) = _
    rw [reshapeEquiv_ix2_1ab]; rfl
  rw [he, View.write_emb_of_mem _ _ (Finset.mem_univ _), ← he, slot_emb]
  unfold k0_pay2
  rw [shapeCast_self]
  rw [cast_eq]
  refine (shapeCast_ab_1ab_apply _ _ _ _ _).trans ?_
  show xstg m ρ c ((rowM c).view.emb (ix2 p q : S64x64.Idx)) = _
  rw [row_emb]; rfl

/-- The own rows read, the own slot read and overwritten. -/
theorem own_step {o₁ : Fin 2 → ℕ} {h₁ : ∀ a, o₁ a + S64x64.size a ≤ S1024x64.size a} (e₁ : o₁ = ![64 * c.val, 0])
    {o₂ : Fin 3 → ℕ} {h₂ : ∀ a, o₂ a + S1x64x64.size a ≤ S16x64x64.size a} (e₂ : o₂ = ![c.val, 0, 0])
    {l₁ : (xM : Memref sig .tc .vmem S1024x64 .bf16).view.LoadsAt (Rect.unit (s := S1024x64) o₁ S64x64.size h₁).toLoadRect}
    {l₂ : (rM : Memref sig .tc .vmem S16x64x64 .bf16).view.LoadsAt (Rect.unit (s := S16x64x64) o₂ S1x64x64.size h₂).toLoadRect}
    {hx : ((rM : Memref sig .tc .vmem S16x64x64 .bf16).access (Rect.unit (s := S16x64x64) o₂ S1x64x64.size h₂)).Stores Finset.univ}
    {hm} {f : (cc0_scratch0 : Ref sig .tc).ty.Contents (Elt F)}
    {α : Type} {Q : α → sProp 𝕄} {k : PUnit → Prog (TpuEff nD τ sig (Elt F) Λ₀ .tc) α} :
    iprop((((c : Thread nD τ).loc cc0_stg0_0) ↦{fullShare} xstg m ρ c) ∗ slotPts c c f)
      ⊢ iprop((((((c : Thread nD τ).loc cc0_stg0_0) ↦{fullShare} xstg m ρ c) ∗ slotPts c c (landed m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S1024x64) o₁ S64x64.size h₁).toLoadRect l₁) fun x =>
                .op (.load rM (Rect.unit (s := S16x64x64) o₂ S1x64x64.size h₂).toLoadRect l₂) fun _ =>
                  .op (.store rM (Rect.unit (s := S16x64x64) o₂ S1x64x64.size h₂) (k0_pay2 x) Finset.univ hx hm) k) Q) := by
  subst e₁ e₂
  unfold slotPts
  iintro ⟨Hx, Hs⟩ Hk
  iapply (wp_load 𝒱₀ (c : Thread nD τ) none Set.univ (m := xM) (Finset.subset_univ _)) $$ Hx; iintro Hx
  iapply (wp_load_rect 𝒱₀ (c : Thread nD τ) none Set.univ (m := rM) (r := slotR c) (own_set c).subset) $$ Hs; iintro Hs
  iapply (wp_store 𝒱₀ (c : Thread nD τ) none Set.univ (m := rM) (r := slotR c) (Mk := Finset.univ) (by rw [View.setOn_univ]; exact (own_set c).subset)) $$ Hs; iintro Hs
  iapply Hk
  isplitl [Hx]; · iexact Hx
  ihave H := (Entails.of_eq (pointsTo_congr (own_eq m ρ c f))) $$ Hs
  iexact H

/-! ## The result -/

theorem wrow_inb (s : Dev nD) : ∀ a, (![64 * s.val, 0] : Fin 2 → Nat) a + S64x1024.size a ≤ S1024x1024.size a := by revert s; decide
abbrev wrowR (s : Dev nD) : Rect S1024x1024 := Rect.unit (s := S1024x1024) ![64 * s.val, 0] S64x1024.size (wrow_inb s)

/-- What the body loads at step `s`: slot `s` and the `s`-th 64 rows of `w`. -/
def sl (s : Dev nD) : Vec F S1x64x64 .bf16 := (rM : Memref sig .tc .vmem S16x64x64 .bf16).view.readAt (Elt F) (slotR s).toLoadRect (landed m ρ c)
def wv (s : Dev nD) : Vec F S64x1024 .bf16 := (wM : Memref sig .tc .vmem S1024x1024 .bf16).view.readAt (Elt F) (wrowR s).toLoadRect (wstg m ρ c)

/-- The product of step `s`, and the sum of the first `n` products. -/
def prod (s : Dev nD) : FVec F S64x1024 .f32 :=
  matmul dot_S64x64_S64x1024_S64x1024_1_0_0_1_n_n none (shapeCast S64x64 (sl m ρ c s) shapeCasts_S1x64x64_S64x64 : FVec F S64x64 .bf16)
    (shapeCast S64x1024 (wv m ρ c s) shapeCasts_S64x1024_S64x1024 : FVec F S64x1024 .bf16) (constant S64x1024 .f32 0x00000000#32)
set_option backward.proofsInPublic true in
def dv (n : ℕ) : Dev nD := ⟨n % 16, Nat.mod_lt _ (by decide)⟩
def acc : ℕ → FVec F S64x1024 .f32
  | 0 => broadcast S64x1024 (Scalar.ofBits .f32 0x00000000#32 : F .f32)
  | n + 1 => addf (acc n) (prod m ρ c (dv n))
/-- What the body stores: the larger of the sum of the sixteen products and zero. -/
def outAt : FVec F S64x1024 .f32 :=
  maximumf (acc m ρ c 16) (broadcast S64x1024 (Scalar.ofBits .f32 0x00000000#32 : F .f32))

set_option maxRecDepth 8000 in
/-- The stored value, as the body nests it. -/
theorem out_eq : k0_pay1 (k0_pay9 (k0_pay7 (k0_pay5 (k0_pay3 (sl m ρ c 0) (wv m ρ c 0) (sl m ρ c 1) (wv m ρ c 1)) (k0_pay4 (sl m ρ c 2) (wv m ρ c 2))
        (sl m ρ c 3) (wv m ρ c 3) (sl m ρ c 4) (wv m ρ c 4) (sl m ρ c 5) (wv m ρ c 5) (sl m ρ c 6) (wv m ρ c 6)) (k0_pay6 (sl m ρ c 7) (wv m ρ c 7))
        (sl m ρ c 8) (wv m ρ c 8) (sl m ρ c 9) (wv m ρ c 9) (sl m ρ c 10) (wv m ρ c 10) (sl m ρ c 11) (wv m ρ c 11)) (k0_pay8 (sl m ρ c 12) (wv m ρ c 12))
        (sl m ρ c 13) (wv m ρ c 13) (sl m ρ c 14) (wv m ρ c 14)) (k0_pay10 (sl m ρ c 15)) (wv m ρ c 15) = outAt m ρ c := rfl

theorem slot_step (s : Dev nD) {o : Fin 3 → ℕ} {h : ∀ a, o a + S1x64x64.size a ≤ S16x64x64.size a} (e : o = ![s.val, 0, 0])
    {l : (rM : Memref sig .tc .vmem S16x64x64 .bf16).view.LoadsAt (Rect.unit (s := S16x64x64) o S1x64x64.size h).toLoadRect}
    {α : Type} {Q : α → sProp 𝕄} {k : Vec F S1x64x64 .bf16 → Prog (TpuEff nD τ sig (Elt F) Λ₀ .tc) α} :
    (((c : Thread nD τ).loc cc0_scratch0) ↦{fullShare} landed m ρ c)
      ⊢ iprop(((((c : Thread nD τ).loc cc0_scratch0) ↦{fullShare} landed m ρ c)
            -∗ wp frame (wpE (defs₀ (F := F)) 𝒱₀ (c : Thread nD τ) none) Set.univ (k (sl m ρ c s)) Q)
          -∗ wp frame (wpE (defs₀ (F := F)) 𝒱₀ (c : Thread nD τ) none) Set.univ
              (.op (.load rM (Rect.unit (s := S16x64x64) o S1x64x64.size h).toLoadRect l) k) Q) := by
  subst e
  exact wp_load 𝒱₀ (c : Thread nD τ) none Set.univ (m := rM) (Finset.subset_univ _)

theorem wrow_step (s : Dev nD) {o : Fin 2 → ℕ} {h : ∀ a, o a + S64x1024.size a ≤ S1024x1024.size a} (e : o = ![64 * s.val, 0])
    {l : (wM : Memref sig .tc .vmem S1024x1024 .bf16).view.LoadsAt (Rect.unit (s := S1024x1024) o S64x1024.size h).toLoadRect}
    {α : Type} {Q : α → sProp 𝕄} {k : Vec F S64x1024 .bf16 → Prog (TpuEff nD τ sig (Elt F) Λ₀ .tc) α} :
    (((c : Thread nD τ).loc cc0_stg1_0) ↦{fullShare} wstg m ρ c)
      ⊢ iprop(((((c : Thread nD τ).loc cc0_stg1_0) ↦{fullShare} wstg m ρ c)
            -∗ wp frame (wpE (defs₀ (F := F)) 𝒱₀ (c : Thread nD τ) none) Set.univ (k (wv m ρ c s)) Q)
          -∗ wp frame (wpE (defs₀ (F := F)) 𝒱₀ (c : Thread nD τ) none) Set.univ
              (.op (.load wM (Rect.unit (s := S1024x1024) o S64x1024.size h).toLoadRect l) k) Q) := by
  subst e
  exact wp_load 𝒱₀ (c : Thread nD τ) none Set.univ (m := wM) (Finset.subset_univ _)

abbrev oR : Rect S64x1024 := Rect.unit (s := S64x1024) ![0, 0] S64x1024.size inb_S64x1024_S64x1024_0_0
theorem hz : (![0, 0] : Fin 2 → Nat) = fun _ => 0 := funext fun a => by fin_cases a <;> rfl

/-- The result buffer read and overwritten whole. -/
theorem out_step {f : (cc0_stg2_0 : Ref sig .tc).ty.Contents (Elt F)} {v : FVec F S64x1024 .f32}
    {l : (oM : Memref sig .tc .vmem S64x1024 .f32).view.LoadsAt oR.toLoadRect}
    {hx : ((oM : Memref sig .tc .vmem S64x1024 .f32).access oR).Stores Finset.univ} {hm}
    {α : Type} {Q : α → sProp 𝕄} {k : PUnit → Prog (TpuEff nD τ sig (Elt F) Λ₀ .tc) α} :
    (((c : Thread nD τ).loc cc0_stg2_0) ↦{fullShare} f)
      ⊢ iprop(((((c : Thread nD τ).loc cc0_stg2_0) ↦{fullShare} v)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM oR.toLoadRect l) fun _ => .op (.store oM oR v Finset.univ hx hm) k) Q) := by
  iintro Ho Hk
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  iapply Hk
  ihave H := (Entails.of_eq (congrArg (fun g => (((c : Thread nD τ).loc cc0_stg2_0) ↦{fullShare} g : sProp 𝕄))
    (Memref.write_access_unit_zero_univ (Elt F) cc0_stg2_0 hz _ f v))) $$ Ho
  iexact H

end Cert.Exchange

end
-- ==== Proof.Body.lean ====
/-
# The body, run

The whole body from its precondition to its postcondition: signals, barrier, own block, transfers, landings,
departures, the sixteen products, the store.
-/
module

public import proofs.«01_k».proof.Proof.Phases
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the body addresses -/

theorem dev1 : ∀ c : Dev nD, (⟨k0_dev1 c, k0_dev1_lt c⟩ : Dev nD) = tgt c 0 := by decide +kernel
theorem dev2 : ∀ c : Dev nD, (⟨k0_dev2 c, k0_dev2_lt c⟩ : Dev nD) = tgt c 1 := by decide +kernel
theorem dev3 : ∀ c : Dev nD, (⟨k0_dev3 c, k0_dev3_lt c⟩ : Dev nD) = tgt c 2 := by decide +kernel
theorem dev4 : ∀ c : Dev nD, (⟨k0_dev4 c, k0_dev4_lt c⟩ : Dev nD) = tgt c 3 := by decide +kernel
theorem dev5 : ∀ c : Dev nD, (⟨k0_dev5 c, k0_dev5_lt c⟩ : Dev nD) = tgt c 4 := by decide +kernel
theorem dev6 : ∀ c : Dev nD, (⟨k0_dev6 c, k0_dev6_lt c⟩ : Dev nD) = tgt c 5 := by decide +kernel
theorem dev7 : ∀ c : Dev nD, (⟨k0_dev7 c, k0_dev7_lt c⟩ : Dev nD) = tgt c 6 := by decide +kernel
theorem dev8 : ∀ c : Dev nD, (⟨k0_dev8 c, k0_dev8_lt c⟩ : Dev nD) = tgt c 7 := by decide +kernel
theorem dev9 : ∀ c : Dev nD, (⟨k0_dev9 c, k0_dev9_lt c⟩ : Dev nD) = tgt c 8 := by decide +kernel
theorem dev10 : ∀ c : Dev nD, (⟨k0_dev10 c, k0_dev10_lt c⟩ : Dev nD) = tgt c 9 := by decide +kernel
theorem dev11 : ∀ c : Dev nD, (⟨k0_dev11 c, k0_dev11_lt c⟩ : Dev nD) = tgt c 10 := by decide +kernel
theorem dev12 : ∀ c : Dev nD, (⟨k0_dev12 c, k0_dev12_lt c⟩ : Dev nD) = tgt c 11 := by decide +kernel
theorem dev13 : ∀ c : Dev nD, (⟨k0_dev13 c, k0_dev13_lt c⟩ : Dev nD) = tgt c 12 := by decide +kernel
theorem dev14 : ∀ c : Dev nD, (⟨k0_dev14 c, k0_dev14_lt c⟩ : Dev nD) = tgt c 13 := by decide +kernel
theorem dev15 : ∀ c : Dev nD, (⟨k0_dev15 c, k0_dev15_lt c⟩ : Dev nD) = tgt c 14 := by decide +kernel
theorem dev16 : ∀ c : Dev nD, (⟨k0_dev16 c, k0_dev16_lt c⟩ : Dev nD) = tgt c 0 := by decide +kernel
theorem dev17 : ∀ c : Dev nD, (⟨k0_dev17 c, k0_dev17_lt c⟩ : Dev nD) = tgt c 1 := by decide +kernel
theorem dev18 : ∀ c : Dev nD, (⟨k0_dev18 c, k0_dev18_lt c⟩ : Dev nD) = tgt c 2 := by decide +kernel
theorem dev19 : ∀ c : Dev nD, (⟨k0_dev19 c, k0_dev19_lt c⟩ : Dev nD) = tgt c 3 := by decide +kernel
theorem dev20 : ∀ c : Dev nD, (⟨k0_dev20 c, k0_dev20_lt c⟩ : Dev nD) = tgt c 4 := by decide +kernel
theorem dev21 : ∀ c : Dev nD, (⟨k0_dev21 c, k0_dev21_lt c⟩ : Dev nD) = tgt c 5 := by decide +kernel
theorem dev22 : ∀ c : Dev nD, (⟨k0_dev22 c, k0_dev22_lt c⟩ : Dev nD) = tgt c 6 := by decide +kernel
theorem dev23 : ∀ c : Dev nD, (⟨k0_dev23 c, k0_dev23_lt c⟩ : Dev nD) = tgt c 7 := by decide +kernel
theorem dev24 : ∀ c : Dev nD, (⟨k0_dev24 c, k0_dev24_lt c⟩ : Dev nD) = tgt c 8 := by decide +kernel
theorem dev25 : ∀ c : Dev nD, (⟨k0_dev25 c, k0_dev25_lt c⟩ : Dev nD) = tgt c 9 := by decide +kernel
theorem dev26 : ∀ c : Dev nD, (⟨k0_dev26 c, k0_dev26_lt c⟩ : Dev nD) = tgt c 10 := by decide +kernel
theorem dev27 : ∀ c : Dev nD, (⟨k0_dev27 c, k0_dev27_lt c⟩ : Dev nD) = tgt c 11 := by decide +kernel
theorem dev28 : ∀ c : Dev nD, (⟨k0_dev28 c, k0_dev28_lt c⟩ : Dev nD) = tgt c 12 := by decide +kernel
theorem dev29 : ∀ c : Dev nD, (⟨k0_dev29 c, k0_dev29_lt c⟩ : Dev nD) = tgt c 13 := by decide +kernel
theorem dev30 : ∀ c : Dev nD, (⟨k0_dev30 c, k0_dev30_lt c⟩ : Dev nD) = tgt c 14 := by decide +kernel

/-! ## The proof data -/

/-- The ghost state a device carries into the body: its cells' positions, and the tokens of the duties it pays. -/
def linear (c : Dev nD) : sProp 𝕄 :=
  iprop((bigSep Finset.univ fun i : CI => atPos ER (kcell (c, i)) 0 ∅ 0)
    ∗ (bigSep Finset.univ fun k => dutyTok ER (barCell (tgt c k)) 0 k.rev)
    ∗ (bigSep Finset.univ fun k => dutyTok ER (sendCell c k) 0 0)
    ∗ bigSep Finset.univ fun k => dutyTok ER (recvCell (tgt c k) k) 0 0)

/-- What a device starts from: its ghost state, what the launch credits its barrier and its landings, the waits' order. -/
def start (c : Dev nD) : sProp 𝕄 :=
  iprop((∃ K, records m ρ K ∗ linear c) ∗ cred (tallyAt (barCell c) () 15)
    ∗ (bigSep Finset.univ fun k => cred (tallyAt (recvCell c k) () N)) ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)
/-- After the body: the scratch filled, every counter of the device's cells at zero. -/
def Φ₁ (c : Dev nD) : sProp 𝕄 :=
  iprop((((c : Thread nD τ).loc cc0_scratch0) ↦{fullShare} landed m ρ c) ∗ bigSep Finset.univ fun i : CI => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c)
    ∗ stg c cc0_stg2_0 (outAt m ρ c))

set_option maxHeartbeats 8000000 in
set_option maxRecDepth 20000 in
/-- The body, one rule per operation in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) cc0_scratch1 cc0_scratch2) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyPre Φ₀ start linear
  iintro ⟨⟨⟨⟨⟨%K, #HR, Hat, HtB, HtS, HtV⟩, HcB, HcV, #Hlev⟩, ⟨%f0, Hscr⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave Hat := (Entails.of_eq (bigSep_CI (F := F) fun i : CI => atPos ER (kcell (c, i)) 0 ∅ 0)) $$ Hat
  icases Hat with ⟨HatB, HatS, HatV⟩
  ihave Hscr := (scratch_split c f0) $$ Hscr
  icases Hscr with ⟨Hown, Hslots⟩
  -- the signals, each handing a peer the slot it will write
  ihave HS := (sig_intro (F := F) c) $$ [HO HtB Hslots]
  · isplitl [HO]; · iexists W; iexact HO
    isplitl [HtB] <;> iassumption
  iapply (sig_step m ρ K c _ 0 (dev1 c) (by decide)) $$ [HS]
  · isplitr; · iexact HR
    iexact HS
  iintro HS
  iapply (sig_step m ρ K c _ 1 (dev2 c) (by decide)) $$ [HS]
  · isplitr; · iexact HR
    iexact HS
  iintro HS
  iapply (sig_step m ρ K c _ 2 (dev3 c) (by decide)) $$ [HS]
  · isplitr; · iexact HR
    iexact HS
  iintro HS
  iapply (sig_step m ρ K c _ 3 (dev4 c) (by decide)) $$ [HS]
  · isplitr; · iexact HR
    iexact HS
  iintro HS
  iapply (sig_step m ρ K c _ 4 (dev5 c) (by decide)) $$ [HS]
  · isplitr; · iexact HR
    iexact HS
  iintro HS
  iapply (sig_step m ρ K c _ 5 (dev6 c) (by decide)) $$ [HS]
  · isplitr; · iexact HR
    iexact HS
  iintro HS
  iapply (sig_step m ρ K c _ 6 (dev7 c) (by decide)) $$ [HS]
  · isplitr; · iexact HR
    iexact HS
  iintro HS
  iapply (sig_step m ρ K c _ 7 (dev8 c) (by decide)) $$ [HS]
  · isplitr; · iexact HR
    iexact HS
  iintro HS
  iapply (sig_step m ρ K c _ 8 (dev9 c) (by decide)) $$ [HS]
  · isplitr; · iexact HR
    iexact HS
  iintro HS
  iapply (sig_step m ρ K c _ 9 (dev10 c) (by decide)) $$ [HS]
  · isplitr; · iexact HR
    iexact HS
  iintro HS
  iapply (sig_step m ρ K c _ 10 (dev11 c) (by decide)) $$ [HS]
  · isplitr; · iexact HR
    iexact HS
  iintro HS
  iapply (sig_step m ρ K c _ 11 (dev12 c) (by decide)) $$ [HS]
  · isplitr; · iexact HR
    iexact HS
  iintro HS
  iapply (sig_step m ρ K c _ 12 (dev13 c) (by decide)) $$ [HS]
  · isplitr; · iexact HR
    iexact HS
  iintro HS
  iapply (sig_step m ρ K c _ 13 (dev14 c) (by decide)) $$ [HS]
  · isplitr; · iexact HR
    iexact HS
  iintro HS
  iapply (sig_step m ρ K c _ 14 (dev15 c) (by decide)) $$ [HS]
  · isplitr; · iexact HR
    iexact HS
  iintro HS
  -- the barrier: the slots this device will write
  iapply (bar_step m ρ K c (by decide)) $$ [HS HcB HatB]
  · isplitr; · iexact HR
    isplitr; · iexact Hlev
    isplitl [HS]; · iexact HS
    isplitl [HcB]; · iexact HcB
    iexact HatB
  iintro ⟨HO, HatB, Hpeer⟩
  -- its own block
  iapply (own_step m ρ c (k0_off1_eq c) (k0_off2_eq c)) $$ [Hx Hown]
  · isplitl [Hx] <;> iassumption
  iintro ⟨Hx, Hown⟩
  -- the transfers
  ihave Hx := (Entails.of_eq (staged_eq m ρ c)) $$ Hx
  icases Hx with ⟨Hrow, Hrows⟩
  ihave HS := (send_intro m ρ c) $$ [HO Hrows Hpeer HtS HtV]
  · isplitl [HO]; · iexact HO
    isplitl [Hrows]; · iexact Hrows
    isplitl [Hpeer]; · iexact Hpeer
    isplitl [HtS] <;> iassumption
  iapply (send_step m ρ K c _ 0 (dev16 c) (k0_off3_eq c) (off4_eq c 0) rfl rfl) $$ [HS]
  · isplitr; · iexact HR
    iexact HS
  iintro HS
  iapply (send_step m ρ K c _ 1 (dev17 c) (k0_off3_eq c) (off4_eq c 1) rfl rfl) $$ [HS]
  · isplitr; · iexact HR
    iexact HS
  iintro HS
  iapply (send_step m ρ K c _ 2 (dev18 c) (k0_off3_eq c) (off4_eq c 2) rfl rfl) $$ [HS]
  · isplitr; · iexact HR
    iexact HS
  iintro HS
  iapply (send_step m ρ K c _ 3 (dev19 c) (k0_off3_eq c) (off4_eq c 3) rfl rfl) $$ [HS]
  · isplitr; · iexact HR
    iexact HS
  iintro HS
  iapply (send_step m ρ K c _ 4 (dev20 c) (k0_off3_eq c) (off4_eq c 4) rfl rfl) $$ [HS]
  · isplitr; · iexact HR
    iexact HS
  iintro HS
  iapply (send_step m ρ K c _ 5 (dev21 c) (k0_off3_eq c) (off4_eq c 5) rfl rfl) $$ [HS]
  · isplitr; · iexact HR
    iexact HS
  iintro HS
  iapply (send_step m ρ K c _ 6 (dev22 c) (k0_off3_eq c) (off4_eq c 6) rfl rfl) $$ [HS]
  · isplitr; · iexact HR
    iexact HS
  iintro HS
  iapply (send_step m ρ K c _ 7 (dev23 c) (k0_off3_eq c) (off4_eq c 7) rfl rfl) $$ [HS]
  · isplitr; · iexact HR
    iexact HS
  iintro HS
  iapply (send_step m ρ K c _ 8 (dev24 c) (k0_off3_eq c) (off4_eq c 8) rfl rfl) $$ [HS]
  · isplitr; · iexact HR
    iexact HS
  iintro HS
  iapply (send_step m ρ K c _ 9 (dev25 c) (k0_off3_eq c) (off4_eq c 9) rfl rfl) $$ [HS]
  · isplitr; · iexact HR
    iexact HS
  iintro HS
  iapply (send_step m ρ K c _ 10 (dev26 c) (k0_off3_eq c) (off4_eq c 10) rfl rfl) $$ [HS]
  · isplitr; · iexact HR
    iexact HS
  iintro HS
  iapply (send_step m ρ K c _ 11 (dev27 c) (k0_off3_eq c) (off4_eq c 11) rfl rfl) $$ [HS]
  · isplitr; · iexact HR
    iexact HS
  iintro HS
  iapply (send_step m ρ K c _ 12 (dev28 c) (k0_off3_eq c) (off4_eq c 12) rfl rfl) $$ [HS]
  · isplitr; · iexact HR
    iexact HS
  iintro HS
  iapply (send_step m ρ K c _ 13 (dev29 c) (k0_off3_eq c) (off4_eq c 13) rfl rfl) $$ [HS]
  · isplitr; · iexact HR
    iexact HS
  iintro HS
  iapply (send_step m ρ K c _ 14 (dev30 c) (k0_off3_eq c) (off4_eq c 14) rfl rfl) $$ [HS]
  · isplitr; · iexact HR
    iexact HS
  iintro HS
  ihave HS := (show SndSt m ρ c ((14 : Fin 15).val + 1) ⊢ _ from send_exit m ρ c) $$ HS
  icases HS with ⟨HO, HcS⟩
  -- the landings
  ihave HS := (recv_intro m ρ c) $$ [HO HcV HatV]
  · isplitl [HO]; · iexact HO
    isplitl [HcV]; · iexact HcV
    iexact HatV
  iapply (recv_step m ρ K c 0 rfl (h := k0_off5_inb c 0) rfl) $$ [HS]
  · isplitr; · iexact HR
    iexact HS
  iintro HS
  iapply (recv_step m ρ K c 1 rfl (h := k0_off5_inb c 1) rfl) $$ [HS]
  · isplitr; · iexact HR
    iexact HS
  iintro HS
  iapply (recv_step m ρ K c 2 rfl (h := k0_off5_inb c 2) rfl) $$ [HS]
  · isplitr; · iexact HR
    iexact HS
  iintro HS
  iapply (recv_step m ρ K c 3 rfl (h := k0_off5_inb c 3) rfl) $$ [HS]
  · isplitr; · iexact HR
    iexact HS
  iintro HS
  iapply (recv_step m ρ K c 4 rfl (h := k0_off5_inb c 4) rfl) $$ [HS]
  · isplitr; · iexact HR
    iexact HS
  iintro HS
  iapply (recv_step m ρ K c 5 rfl (h := k0_off5_inb c 5) rfl) $$ [HS]
  · isplitr; · iexact HR
    iexact HS
  iintro HS
  iapply (recv_step m ρ K c 6 rfl (h := k0_off5_inb c 6) rfl) $$ [HS]
  · isplitr; · iexact HR
    iexact HS
  iintro HS
  iapply (recv_step m ρ K c 7 rfl (h := k0_off5_inb c 7) rfl) $$ [HS]
  · isplitr; · iexact HR
    iexact HS
  iintro HS
  iapply (recv_step m ρ K c 8 rfl (h := k0_off5_inb c 8) rfl) $$ [HS]
  · isplitr; · iexact HR
    iexact HS
  iintro HS
  iapply (recv_step m ρ K c 9 rfl (h := k0_off5_inb c 9) rfl) $$ [HS]
  · isplitr; · iexact HR
    iexact HS
  iintro HS
  iapply (recv_step m ρ K c 10 rfl (h := k0_off5_inb c 10) rfl) $$ [HS]
  · isplitr; · iexact HR
    iexact HS
  iintro HS
  iapply (recv_step m ρ K c 11 rfl (h := k0_off5_inb c 11) rfl) $$ [HS]
  · isplitr; · iexact HR
    iexact HS
  iintro HS
  iapply (recv_step m ρ K c 12 rfl (h := k0_off5_inb c 12) rfl) $$ [HS]
  · isplitr; · iexact HR
    iexact HS
  iintro HS
  iapply (recv_step m ρ K c 13 rfl (h := k0_off5_inb c 13) rfl) $$ [HS]
  · isplitr; · iexact HR
    iexact HS
  iintro HS
  iapply (recv_step m ρ K c 14 rfl (h := k0_off5_inb c 14) rfl) $$ [HS]
  · isplitr; · iexact HR
    iexact HS
  iintro HS
  ihave HS := (show RcvSt m ρ c ((14 : Fin 15).val + 1) ⊢ _ from recv_exit m ρ c) $$ HS
  icases HS with ⟨HO, HatV, Hland⟩
  ihave Hs := (scratch_join m ρ c) $$ [Hown Hland]
  · isplitl [Hown] <;> iassumption
  -- the departures
  ihave HS := (dep_intro m ρ c) $$ [HO HcS HatS]
  · isplitl [HO]; · iexact HO
    isplitl [HcS]; · iexact HcS
    iexact HatS
  iapply (dep_step m ρ K c 0 rfl (h := k0_off4_inb c 0) rfl) $$ [HS]
  · isplitr; · iexact HR
    iexact HS
  iintro HS
  iapply (dep_step m ρ K c 1 rfl (h := k0_off4_inb c 1) rfl) $$ [HS]
  · isplitr; · iexact HR
    iexact HS
  iintro HS
  iapply (dep_step m ρ K c 2 rfl (h := k0_off4_inb c 2) rfl) $$ [HS]
  · isplitr; · iexact HR
    iexact HS
  iintro HS
  iapply (dep_step m ρ K c 3 rfl (h := k0_off4_inb c 3) rfl) $$ [HS]
  · isplitr; · iexact HR
    iexact HS
  iintro HS
  iapply (dep_step m ρ K c 4 rfl (h := k0_off4_inb c 4) rfl) $$ [HS]
  · isplitr; · iexact HR
    iexact HS
  iintro HS
  iapply (dep_step m ρ K c 5 rfl (h := k0_off4_inb c 5) rfl) $$ [HS]
  · isplitr; · iexact HR
    iexact HS
  iintro HS
  iapply (dep_step m ρ K c 6 rfl (h := k0_off4_inb c 6) rfl) $$ [HS]
  · isplitr; · iexact HR
    iexact HS
  iintro HS
  iapply (dep_step m ρ K c 7 rfl (h := k0_off4_inb c 7) rfl) $$ [HS]
  · isplitr; · iexact HR
    iexact HS
  iintro HS
  iapply (dep_step m ρ K c 8 rfl (h := k0_off4_inb c 8) rfl) $$ [HS]
  · isplitr; · iexact HR
    iexact HS
  iintro HS
  iapply (dep_step m ρ K c 9 rfl (h := k0_off4_inb c 9) rfl) $$ [HS]
  · isplitr; · iexact HR
    iexact HS
  iintro HS
  iapply (dep_step m ρ K c 10 rfl (h := k0_off4_inb c 10) rfl) $$ [HS]
  · isplitr; · iexact HR
    iexact HS
  iintro HS
  iapply (dep_step m ρ K c 11 rfl (h := k0_off4_inb c 11) rfl) $$ [HS]
  · isplitr; · iexact HR
    iexact HS
  iintro HS
  iapply (dep_step m ρ K c 12 rfl (h := k0_off4_inb c 12) rfl) $$ [HS]
  · isplitr; · iexact HR
    iexact HS
  iintro HS
  iapply (dep_step m ρ K c 13 rfl (h := k0_off4_inb c 13) rfl) $$ [HS]
  · isplitr; · iexact HR
    iexact HS
  iintro HS
  iapply (dep_step m ρ K c 14 rfl (h := k0_off4_inb c 14) rfl) $$ [HS]
  · isplitr; · iexact HR
    iexact HS
  iintro HS
  ihave HS := (show DepSt m ρ c ((14 : Fin 15).val + 1) ⊢ _ from dep_exit m ρ c) $$ HS
  icases HS with ⟨⟨%W', HO⟩, HatS, Hrows⟩
  ihave Hx := (Entails.of_eq (staged_eq m ρ c).symm) $$ [Hrow Hrows]
  · isplitl [Hrow] <;> iassumption
  imod (close_cells m ρ K c) $$ [HatB HatS HatV] with Hz
  · isplitr; · iexact HR
    isplitl [HatB]; · iexact HatB
    isplitl [HatS] <;> iassumption
  -- the products and the store
  iapply (slot_step m ρ c (0 : Dev nD) rfl) $$ Hs; iintro Hs
  iapply (wrow_step m ρ c (0 : Dev nD) rfl) $$ Hw; iintro Hw
  iapply (slot_step m ρ c (1 : Dev nD) rfl) $$ Hs; iintro Hs
  iapply (wrow_step m ρ c (1 : Dev nD) rfl) $$ Hw; iintro Hw
  iapply (slot_step m ρ c (2 : Dev nD) rfl) $$ Hs; iintro Hs
  iapply (wrow_step m ρ c (2 : Dev nD) rfl) $$ Hw; iintro Hw
  iapply (slot_step m ρ c (3 : Dev nD) rfl) $$ Hs; iintro Hs
  iapply (wrow_step m ρ c (3 : Dev nD) rfl) $$ Hw; iintro Hw
  iapply (slot_step m ρ c (4 : Dev nD) rfl) $$ Hs; iintro Hs
  iapply (wrow_step m ρ c (4 : Dev nD) rfl) $$ Hw; iintro Hw
  iapply (slot_step m ρ c (5 : Dev nD) rfl) $$ Hs; iintro Hs
  iapply (wrow_step m ρ c (5 : Dev nD) rfl) $$ Hw; iintro Hw
  iapply (slot_step m ρ c (6 : Dev nD) rfl) $$ Hs; iintro Hs
  iapply (wrow_step m ρ c (6 : Dev nD) rfl) $$ Hw; iintro Hw
  iapply (slot_step m ρ c (7 : Dev nD) rfl) $$ Hs; iintro Hs
  iapply (wrow_step m ρ c (7 : Dev nD) rfl) $$ Hw; iintro Hw
  iapply (slot_step m ρ c (8 : Dev nD) rfl) $$ Hs; iintro Hs
  iapply (wrow_step m ρ c (8 : Dev nD) rfl) $$ Hw; iintro Hw
  iapply (slot_step m ρ c (9 : Dev nD) rfl) $$ Hs; iintro Hs
  iapply (wrow_step m ρ c (9 : Dev nD) rfl) $$ Hw; iintro Hw
  iapply (slot_step m ρ c (10 : Dev nD) rfl) $$ Hs; iintro Hs
  iapply (wrow_step m ρ c (10 : Dev nD) rfl) $$ Hw; iintro Hw
  iapply (slot_step m ρ c (11 : Dev nD) rfl) $$ Hs; iintro Hs
  iapply (wrow_step m ρ c (11 : Dev nD) rfl) $$ Hw; iintro Hw
  iapply (slot_step m ρ c (12 : Dev nD) rfl) $$ Hs; iintro Hs
  iapply (wrow_step m ρ c (12 : Dev nD) rfl) $$ Hw; iintro Hw
  iapply (slot_step m ρ c (13 : Dev nD) rfl) $$ Hs; iintro Hs
  iapply (wrow_step m ρ c (13 : Dev nD) rfl) $$ Hw; iintro Hw
  iapply (slot_step m ρ c (14 : Dev nD) rfl) $$ Hs; iintro Hs
  iapply (wrow_step m ρ c (14 : Dev nD) rfl) $$ Hw; iintro Hw
  iapply (slot_step m ρ c (15 : Dev nD) rfl) $$ Hs; iintro Hs
  iapply (wrow_step m ρ c (15 : Dev nD) rfl) $$ Hw; iintro Hw
  iapply (out_step c) $$ Hout; iintro Hout
  rw [wp_ret]; imodintro
  iapply Hk
  unfold bodyPost Φ₁ Dat.owesAt Pipeline.owesWithin
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; exact out_eq m ρ c)
  iexact Hout

set_option maxRecDepth 65536 in
/-- The obligation the pipeline leaves of the body. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

end Cert.Exchange

end
-- ==== Proof.Run.lean ====
/-
# The launch and the run

What the launch deals each device, how the duty tokens travel round the mesh, what the launch credits, and the run of
the whole program.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

theorem ownSemFacts : Pipeline.OwnSemFacts cfg0.spec osem := by decide

theorem share_eq (c : Dev nD) (w : Fin cfg0.W) : (dats m ρ 0 c).share w = fullShare := by unfold Dat.share; split <;> rfl

theorem kcell_inj : Function.Injective (kcell : Dev nD × CI → GSem nD τ sig) := by
  rintro ⟨c, i⟩ ⟨c', i'⟩ h
  obtain rfl : c = c' := congrArg (fun g : GSem nD τ sig => g.1.1) h
  obtain rfl : i = i' := csem_inj (congrArg Prod.snd h)
  rfl
def exCells : Finset (GSem nD τ sig) := Finset.univ.map ⟨kcell, kcell_inj⟩

/-- The duties of a device's own cells: fifteen of its barrier's, one of each send and of each receive semaphore. -/
abbrev TI : Type := Fin 15 ⊕ OI
def dutyCell : TI → CI := fun | .inl _ => bI | .inr i => .inr i
def dutyNo : TI → Fin 15 := fun | .inl j => j | .inr _ => 0
theorem duty_inj : ∀ t t' : TI, dutyCell t = dutyCell t' → dutyNo t = dutyNo t' → t = t'
  | .inl j, .inl j', _, h => congrArg Sum.inl h
  | .inl _, .inr _, h, _ => by cases h
  | .inr _, .inl _, h, _ => by cases h
  | .inr i, .inr i', h, _ => congrArg Sum.inr (Sum.inr.inj h)
def tokOf (x : Dev nD × TI) : GSem nD τ sig × ℕ × Fin 15 := (kcell (x.1, dutyCell x.2), 0, dutyNo x.2)
theorem tokOf_inj : Function.Injective tokOf := by
  rintro ⟨c, t⟩ ⟨c', t'⟩ h
  have h1 := kcell_inj (congrArg Prod.fst h)
  obtain rfl : c = c' := congrArg Prod.fst h1
  obtain rfl : t = t' := duty_inj t t' (congrArg Prod.snd h1) (congrArg (fun x : GSem nD τ sig × ℕ × Fin 15 => x.2.2) h)
  rfl
def exToks : Finset (GSem nD τ sig × ℕ × Fin 15) := Finset.univ.map ⟨tokOf, tokOf_inj⟩

def u₀ : UU :=
  (initOf (Pipeline.cells cfgs cellOf_inj) (Pipeline.launchToks cfgs cellOf_inj), initOf exCells exToks)

/-- The tokens of the duties of device `c`'s own cells. -/
def toks (c : Dev nD) : sProp 𝕄 := bigSep Finset.univ fun t : TI => dutyTok ER (kcell (c, dutyCell t)) 0 (dutyNo t)

/-- A device's share of the launch element. -/
def G (c : Dev nD) : sProp 𝕄 :=
  iprop((bigSep Finset.univ fun i : CI => roundState ER (sched m ρ) (kcell (c, i)) 0)
    ∗ (bigSep Finset.univ fun i : CI => atPos ER (kcell (c, i)) 0 ∅ 0) ∗ (bigSep Finset.univ fun i : CI => reached ER (kcell (c, i)) 0) ∗ toks c)

/-- What the global step makes of it. -/
def G' (c : Dev nD) : sProp 𝕄 := iprop(∃ K, records m ρ K ∗ linear c)

omit [FloatOps F] in
theorem fund_cells : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun i : CI => Φ (kcell (c, i)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (sched m ρ) exCells exToks) $$ HX with ⟨Hst, Hr, Hat, Htok⟩
  imodintro
  unfold G; simp only [bigSep_sep']
  isplitl [Hst]; · iapply (Entails.of_eq (hX fun g => roundState ER (sched m ρ) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-! ## The semaphores at zero -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's cells at zero: its own semaphores and the launch's one unscoped semaphore, the barrier. -/
theorem sems0_eq (c : Dev nD) : (bigSep Finset.univ fun i : CI => semVal (kcell (c, i)) 0 : sProp 𝕄)
    = iprop(unscopedSems0 c ∗ Pipeline.ownSems0 (Ix := Unit) (Name := ℕ) (U := UU) (Lvl := ℕ) (Val := Elt F) (τ := τ) osem c) := by
  rw [unscopedSems0_eq, BI.bigSep_univ_sum, show (Finset.univ : Finset Unit) = {()} from rfl, bigSep_singleton]; rfl

/-! ## The global step -/

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sched m ρ) κ (kcell (c, i))))
          ∗ (bigSep Finset.univ fun i : CI => atPos ER (kcell (c, i)) 0 ∅ 0) ∗ (bigSep Finset.univ fun i : CI => reached ER (kcell (c, i)) 0) ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun i : CI => semVal (kcell (c, i)) 0) ∗ bigSep Finset.univ fun i : CI => roundState ER (sched m ρ) (kcell (c, i)) 0)
      ⊢ (|={Set.univ}=> bigSep Finset.univ fun i : CI => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv] <;> iassumption

/-- The tokens of the duties device `c` pays. -/
def payToks (c : Dev nD) : sProp 𝕄 :=
  iprop((bigSep Finset.univ fun k => dutyTok ER (barCell (tgt c k)) 0 k.rev)
    ∗ (bigSep Finset.univ fun k => dutyTok ER (sendCell c k) 0 0)
    ∗ bigSep Finset.univ fun k => dutyTok ER (recvCell (tgt c k) k) 0 0)

omit [FloatOps F] in
/-- A family over the devices and the steps, dealt along the transfers. -/
theorem deal (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (tgt c k) k := by
  rw [BI.bigSep_univ_comm, BI.bigSep_univ_comm (fun c k => Φ (tgt c k) k)]
  exact bigSep_congr fun k _ => BI.bigSep_univ_equiv (ring k) fun c => Φ c k

omit [FloatOps F] in
theorem toks_around : (bigSep Finset.univ fun c : Dev nD => (toks c : sProp 𝕄)) = bigSep Finset.univ fun c : Dev nD => payToks c := by
  have h (c : Dev nD) : (toks c : sProp 𝕄) = iprop((bigSep Finset.univ fun k : Fin 15 => dutyTok ER (barCell c) 0 k.rev)
      ∗ (bigSep Finset.univ fun k => dutyTok ER (sendCell c k) 0 0) ∗ bigSep Finset.univ fun k => dutyTok ER (recvCell c k) 0 0) := by
    unfold toks
    rw [BI.bigSep_univ_sum, BI.bigSep_univ_sum, BI.bigSep_univ_equiv Fin.revPerm (fun a : Fin 15 => dutyTok ER (kcell (c, dutyCell (.inl a))) 0 (dutyNo (.inl a)))]; rfl
  rw [bigSep_congr fun c _ => h c]
  unfold payToks
  rw [bigSep_sep', bigSep_sep', bigSep_sep', bigSep_sep', deal (fun c k => dutyTok ER (barCell c) 0 k.rev), deal (fun c k => dutyTok ER (recvCell c k) 0 0)]

omit [FloatOps F] in
theorem regroup :
    (bigSep Finset.univ fun c : Dev nD => iprop((bigSep Finset.univ fun i : CI => iprop(∃ κ : ℕ, cellInv ER (sched m ρ) κ (kcell (c, i))))
          ∗ (bigSep Finset.univ fun i : CI => atPos ER (kcell (c, i)) 0 ∅ 0) ∗ (bigSep Finset.univ fun i : CI => reached ER (kcell (c, i)) 0) ∗ toks c) : sProp 𝕄)
      ⊢ bigSep Finset.univ (G' m ρ) := by
  rw [bigSep_sep', bigSep_sep', bigSep_sep', ← bigSep_univ_prod (fun ck : Dev nD × CI => iprop(∃ κ : ℕ, cellInv ER (sched m ρ) κ (kcell ck))),
    ← bigSep_univ_prod (fun ck : Dev nD × CI => (reached ER (kcell ck) 0 : sProp 𝕄)), toks_around]
  iintro ⟨HI, Hat, #HR, Htok⟩
  ihave HK := (BI.bigSep_exists_pi Finset.univ (fun (ck : Dev nD × CI) (κ : ℕ) => (cellInv ER (sched m ρ) κ (kcell ck) : sProp 𝕄))) $$ HI
  icases HK with ⟨%K, #HI⟩
  iapply (BI.bigSep_with_persistent (R := records m ρ K) (Φ := fun c => linear c) fun c _ => show iprop(records m ρ K ∗ linear c) ⊢ G' m ρ c from by
    unfold G'; iintro H; iexists K; iexact H)
  isplitr
  · unfold records; isplitl; · iexact HI
    iexact HR
  · iapply (Entails.of_eq (show iprop((bigSep Finset.univ fun c : Dev nD => bigSep Finset.univ fun i : CI => atPos ER (kcell (c, i)) 0 ∅ 0)
        ∗ bigSep Finset.univ fun c : Dev nD => (payToks c : sProp 𝕄)) = bigSep Finset.univ fun c : Dev nD => linear c from by
      unfold linear payToks; rw [← bigSep_sep']))
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the launch credits -/

theorem role_of_eq {d c : Dev nD} {a b : SemLoc sig} (h : (((d : Thread nD τ), a) : GSem nD τ sig) = ((c : Thread nD τ), b)) : d = c ∧ role a = role b :=
  ⟨congrArg (fun g : GSem nD τ sig => g.1.1) h, congrArg (fun g : GSem nD τ sig => role g.2) h⟩

theorem bar_ne_recv (d c : Dev nD) (k : Fin 15) : barCell d ≠ recvCell c k := fun h => by
  have := (role_of_eq h).2; rw [role_bar, role_recv] at this; cases this

/-- What device `d` owes device `c`'s barrier: a unit for each transfer of `d`'s that goes to `c`. -/
theorem owed_bar (d c : Dev nD) : O₀ d (barCell c) () = ∑ k : Fin 15, if d = frm c k then 1 else 0 := by
  have hV : (∑ k : Fin 15, (tallyAt (recvCell (tgt d k) k) () N : CellTallies nD τ sig Unit) (barCell c) ()) = 0 :=
    Finset.sum_eq_zero fun k _ => by rw [tallyAt_apply]; exact if_neg fun h => bar_ne_recv _ _ _ h.1
  unfold O₀ OV OB
  rw [Pi.add_apply, Finsupp.add_apply, Finset.sum_apply, Finset.sum_apply, Finsupp.finset_sum_apply, Finsupp.finset_sum_apply, todo_zero, hV, Nat.zero_add]
  refine Finset.sum_congr rfl fun k _ => ?_
  rw [tallyAt_apply]
  by_cases h : d = frm c k
  · rw [if_pos h]; exact if_pos ⟨by rw [h, tgt_frm], rfl⟩
  · rw [if_neg h]; exact if_neg fun h' => h (by rw [(role_of_eq h'.1).1, frm_tgt])

/-- What device `d` owes device `c`'s `k`-th receive semaphore: a landing if `d`'s `k`-th transfer goes to `c`. -/
theorem owed_recv (d c : Dev nD) (k : Fin 15) : O₀ d (recvCell c k) () = if d = frm c k then N else 0 := by
  have hB : (∑ k' : Fin 15, (tallyAt (barCell (tgt d k')) () 1 : CellTallies nD τ sig Unit) (recvCell c k) ()) = 0 :=
    Finset.sum_eq_zero fun k' _ => by rw [tallyAt_apply]; exact if_neg fun h => bar_ne_recv _ _ _ h.1.symm
  have hV : (∑ k' : Fin 15, (tallyAt (recvCell (tgt d k') k') () N : CellTallies nD τ sig Unit) (recvCell c k) ())
      = (tallyAt (recvCell (tgt d k) k) () N : CellTallies nD τ sig Unit) (recvCell c k) () :=
    Finset.sum_eq_single k (fun k' _ hk => by
      rw [tallyAt_apply]
      refine if_neg fun h => hk ?_
      have := (role_of_eq h.1).2
      rw [role_recv, role_recv] at this
      exact (Sum.inr.inj (Sum.inr.inj (Option.some.inj this))).symm) fun h => absurd (Finset.mem_univ k) h
  unfold O₀ OV OB
  rw [Pi.add_apply, Finsupp.add_apply, Finset.sum_apply, Finset.sum_apply, Finsupp.finset_sum_apply, Finsupp.finset_sum_apply, todo_zero, hV, hB,
    Nat.add_zero, tallyAt_apply]
  by_cases h : d = frm c k
  · rw [if_pos h]; exact if_pos ⟨by rw [h, tgt_frm], rfl⟩
  · rw [if_neg h]; exact if_neg fun h' => h (by rw [(role_of_eq h'.1).1, frm_tgt])

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (frm c k) fun _ => 1).trans (if_pos (Finset.mem_univ _))]
  rfl

theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (frm c k) fun _ => N, if_pos (Finset.mem_univ _)]

omit [FloatOps F] in
theorem creds (c : Dev nD) : (Pipeline.launchCred O₀ c : sProp 𝕄)
    ⊢ iprop(cred (tallyAt (barCell c) () 15) ∗ bigSep Finset.univ fun k => cred (tallyAt (recvCell c k) () N)) := by
  unfold Pipeline.launchCred
  refine (bigSep_subset (Finset.subset_univ (Finset.univ.map ⟨csem, csem_inj⟩))).trans ?_
  rw [bigSep_map, bigSep_CI]
  show iprop(cred (tallyOn (barCell c) (launchCredit (Pipeline.owing O₀) 0 (barCell c)))
      ∗ (bigSep Finset.univ fun k => cred (tallyOn (sendCell c k) (launchCredit (Pipeline.owing O₀) 0 (sendCell c k))))
      ∗ bigSep Finset.univ fun k => cred (tallyOn (recvCell c k) (launchCredit (Pipeline.owing O₀) 0 (recvCell c k)))) ⊢ _
  rw [launch_bar, bigSep_congr fun k _ => congrArg cred (launch_recv c k)]
  iintro ⟨HB, -, HV⟩
  isplitl [HB] <;> iassumption

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hr, HB, Ho⟩
  isplitl [HB]; · iexact HB
  isplitl [Ho]; · iexact Ho
  iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen, for any float values, from any memory with zero counters: every fair execution of the program
    terminates, with the arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.Exchange

end
-- ==== Proof.Value.lean ====
/-
# The value, at the ideal instance

What device `c` stores, entry by entry: row `p`, column `n` of its result is the larger of zero and
`Σ_s Σ_q x[64c + p, 64s + q] · w[64s + q, n]`, the outer sum over the sixteen senders, the inner one over the 64 columns that
sender `s` holds. The sixteen sums of 64 are the one sum of 1024 that the reference takes.
-/
module

public import proofs.«01_k».proof.Proof.Run
public import Idealize.ShloMosaic.Lib.StackMember
public import Idealize.ShloMosaic.Lib.MatmulPlain
public import proofs.«01_k».proof.Proof.Gen.ReferenceIdeal.Run

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg) (c : Dev nD)

/-- The staged blocks are the arrays themselves: each window is its whole array. -/
theorem xstg_eq : xstg m ρ c = m ((c : Thread nD τ).loc main_arg0) := by
  funext i
  show m ((c : Thread nD τ).loc main_arg0) _ = _
  congr 1
  funext a
  refine Fin.ext ?_
  fin_cases a
  · show 0 * 1024 + 1 * (i 0).val = (i 0).val; omega
  · show 0 * 64 + 1 * (i 1).val = (i 1).val; omega
theorem wstg_eq : wstg m ρ c = m ((c : Thread nD τ).loc main_arg1) := by
  funext i
  show m ((c : Thread nD τ).loc main_arg1) _ = _
  congr 1
  funext a
  refine Fin.ext ?_
  fin_cases a
  · show 0 * 1024 + 1 * (i 0).val = (i 0).val; omega
  · show 0 * 1024 + 1 * (i 1).val = (i 1).val; omega

/-- The result array ends at what the body stored: one write-back, of the whole array. -/
theorem finalA_out : finalA m ρ c (2 : Fin 3) = outAt m ρ c := by
  refine ((dats (F := Ideal) m ρ 0 c).arrAt_succ (2 : Fin 3) (0 : Fin 1)).trans ((if_pos (flush0_2 _)).trans ?_)
  funext i
  have hi : (i : S64x1024.Idx) = ((cfg0.win 2).blk (0 : Fin 1)).view.emb (i : S64x1024.Idx) := by
    funext a
    refine Fin.ext ?_
    fin_cases a
    · show (i 0).val = 0 * 64 + 1 * (i 0).val; omega
    · show (i 1).val = 0 * 1024 + 1 * (i 1).val; omega
  conv_lhs => rw [hi]
  rw [View.write_emb_of_mem _ _ (Finset.mem_univ _)]
  rfl

/-- The arrays of `x` on device `s` and of `w` on device `c`, as matrices of extended reals. -/
abbrev xa (s : Dev nD) : S1024x64.Idx → EReal := m ((s : Thread nD τ).loc main_arg0)
abbrev wa : S1024x1024.Idx → EReal := m ((c : Thread nD τ).loc main_arg1)

set_option backward.proofsInPublic true in
/-- Position `64 s + q` of an axis of 1024. -/
def at1024 (s : Fin 16) (q : Fin 64) : Fin 1024 := ⟨64 * s.val + q.val, by have := s.isLt; have := q.isLt; omega⟩

theorem row_at (p q : Fin 64) : rowIdx c p q = (ix2 (at1024 c p) q : S1024x64.Idx) := by
  funext a; fin_cases a <;> rfl

/-- Slot `s` as the body loads it, at an entry. -/
theorem sl_apply (s : Dev nD) (p q : Fin 64) :
    shapeCast S64x64 (sl m ρ c s) shapeCasts_S1x64x64_S64x64 (ix2 p q : S64x64.Idx) = xa m s (ix2 (at1024 c p) q) := by
  refine (shapeCast_1ab_ab_apply (sl m ρ c s) shapeCasts_S1x64x64_S64x64 p q).trans ?_
  rw [← row_at c p q]
  refine Eq.trans ?_ (congrFun (xstg_eq m ρ s) (rowIdx c p q))
  have he : (rM.view.slice (slotR s)).emb (ix3 0 p q : S1x64x64.Idx) = (ix3 (s : Fin 16) p q : S16x64x64.Idx) := by
    funext a
    refine Fin.ext ?_
    refine (ValueKit.view_emb_slice_whole_unit_val cc0_scratch0 _ _ _ _ a).trans ?_
    fin_cases a
    · show s.val + 0 = s.val; rfl
    · show 0 + p.val = p.val; omega
    · show 0 + q.val = q.val; omega
  show landed m ρ c ((rM.view.slice (slotR s)).emb (ix3 0 p q : S1x64x64.Idx)) = _
  rw [he]
  rfl

/-- The rows of `w` as the body loads them, at an entry. -/
theorem wv_apply (s : Dev nD) (q : Fin 64) (n : Fin 1024) :
    shapeCast S64x1024 (wv m ρ c s) shapeCasts_S64x1024_S64x1024 (ix2 q n : S64x1024.Idx) = wa m c (ix2 (at1024 s q) n) := by
  rw [shapeCast_self]
  refine Eq.trans ?_ (congrFun (wstg_eq m ρ c) (ix2 (at1024 s q) n : S1024x1024.Idx))
  show wstg m ρ c ((wM.view.slice (wrowR s)).emb (ix2 q n : S64x1024.Idx)) = _
  congr 1
  funext a
  refine Fin.ext ?_
  refine (ValueKit.view_emb_slice_whole_unit_val cc0_stg1_0 _ _ _ _ a).trans ?_
  fin_cases a
  · show 64 * s.val + q.val = 64 * s.val + q.val; rfl
  · show 0 + n.val = n.val; omega

/-- The product of step `s`, at an entry. -/
theorem prod_apply (s : Dev nD) (p : Fin 64) (n : Fin 1024) :
    (prod m ρ c s : S64x1024.Idx → EReal) (ix2 p n)
      = ∑ q : Fin 64, xa m s (ix2 (at1024 c p) q) * wa m c (ix2 (at1024 s q) n) := by
  have h := Ideal.matmul_plain_apply (M := 64) (K := 64) (N := 1024) none
    (shapeCast S64x64 (sl m ρ c s) shapeCasts_S1x64x64_S64x64 : FVec Ideal S64x64 .bf16)
    (shapeCast S64x1024 (wv m ρ c s) shapeCasts_S64x1024_S64x1024 : FVec Ideal S64x1024 .bf16) (constant S64x1024 .f32 0x00000000#32) p n
  refine Eq.trans (show _ = _ from rfl) (h.trans ?_)
  rw [show (constant (F := Ideal) S64x1024 .f32 0x00000000#32 : S64x1024.Idx → EReal) (ix2 p n) = 0 from Ideal.ofBits_zero_f32]
  refine (zero_add (M := EReal) _).trans (Finset.sum_congr rfl fun q _ => ?_)
  exact congrArg₂ (· * ·) (sl_apply m ρ c s p q) (wv_apply m ρ c s q n)

/-- The first `k` steps, at an entry: the sum of their products. -/
theorem acc_apply (p : Fin 64) (n : Fin 1024) : ∀ k : ℕ,
    (acc m ρ c k : S64x1024.Idx → EReal) (ix2 p n) = ∑ s ∈ Finset.range k, (prod m ρ c (dv s) : S64x1024.Idx → EReal) (ix2 p n)
  | 0 => Ideal.ofBits_zero_f32
  | k + 1 => by
    rw [Finset.sum_range_succ, ← acc_apply p n k]
    rfl

/-- The 1024 positions of the contracted axis are the sixteen senders' 64 each. -/
theorem sum_at1024 (f : Fin 1024 → EReal) : ∑ s : Fin 16, ∑ q : Fin 64, f (at1024 s q) = ∑ j : Fin 1024, f j := by
  rw [← Fintype.sum_prod_type' (fun s q => f (at1024 s q))]
  refine Fintype.sum_equiv (finProdFinEquiv (m := 16) (n := 64)) _ _ fun x => congrArg f (Fin.ext ?_)
  show 64 * x.1.val + x.2.val = x.2.val + 64 * x.1.val
  omega

/-- What the body stores, at an entry. -/
theorem outAt_apply (p : Fin 64) (n : Fin 1024) :
    (outAt m ρ c : S64x1024.Idx → EReal) (ix2 p n)
      = max (∑ s : Fin 16, ∑ q : Fin 64, xa m s (ix2 (at1024 c p) q) * wa m c (ix2 (at1024 s q) n)) 0 := by
  show max ((acc m ρ c 16 : S64x1024.Idx → EReal) (ix2 p n)) (Ideal.ofBits .f32 0x00000000#32) = _
  rw [Ideal.ofBits_zero_f32, acc_apply, Finset.sum_range]
  congr 1
  refine Finset.sum_congr rfl fun s _ => ?_
  rw [show dv s.val = s from Fin.ext (Nat.mod_eq_of_lt s.isLt)]
  exact prod_apply m ρ c s p n

/-! ## Against the reference -/

/-- The reference's result: the product of the whole arrays, and the larger of it and zero. -/
def refOut (x w : FVec Ideal Cert.ReferenceIdeal.S1024x1024 .bf16) : FVec Ideal Cert.ReferenceIdeal.S1024x1024 .f32 :=
  maximumf (Host.dotGeneral Cert.ReferenceIdeal.dot_S1024x1024_S1024x1024_S1024x1024_1_0_0_1_n_n none
      (extf .f32 x Cert.ReferenceIdeal.Gen.bitsLt_bf16_f32) (extf .f32 w Cert.ReferenceIdeal.Gen.bitsLt_bf16_f32))
    (broadcastInDim Cert.ReferenceIdeal.S1024x1024 ![] Cert.ReferenceIdeal.Gen.bcast_S_S1024x1024 (constant Cert.ReferenceIdeal.S_ .f32 0x00000000#32))

/-- The reference's result at an entry: the contraction over all 1024 positions, and the larger of it and zero. -/
theorem refOut_apply (x w : S1024x1024.Idx → EReal) (r n : Fin 1024) :
    (refOut x w : S1024x1024.Idx → EReal) (ix2 r n) = max (∑ j : Fin 1024, x (ix2 r j) * w (ix2 j n)) 0 := by
  have h := StackMember.dotGeneral_plain_apply (m := 1024) (k := 1024) (n := 1024) none
    (extf .f32 (x : FVec Ideal S1024x1024 .bf16) Cert.ReferenceIdeal.Gen.bitsLt_bf16_f32)
    (extf .f32 (w : FVec Ideal S1024x1024 .bf16) Cert.ReferenceIdeal.Gen.bitsLt_bf16_f32) r n
  exact congrArg₂ max (Eq.trans (show _ = _ from rfl) h) Ideal.ofBits_zero_f32

/-- Device `c`'s result is block `c` of the reference's rows, when the devices hold the column blocks of `x` and all of `w`. -/
theorem out_block (x w : S1024x1024.Idx → EReal)
    (hx : ∀ s : Dev nD, xa m s = Layout.block ⟨2, ![1024, 64]⟩ ⟨2, ![1024, 1024]⟩ 1 16 s x) (hw : wa m c = w) :
    (outAt m ρ c : S64x1024.Idx → EReal) = Layout.block ⟨2, ![64, 1024]⟩ ⟨2, ![1024, 1024]⟩ 0 16 c (refOut x w) := by
  funext i
  obtain ⟨p, n, rfl⟩ : ∃ (p : Fin 64) (n : Fin 1024), i = ix2 p n := ⟨i 0, i 1, eq_ix2 i⟩
  rw [outAt_apply, Layout.block_apply]
  refine Eq.trans ?_ (congrArg (refOut x w) (show (ix2 (at1024 c p) n : S1024x1024.Idx) = _ from ?_))
  · rw [refOut_apply, ← sum_at1024]
    congr 1
    refine Finset.sum_congr rfl fun s _ => Finset.sum_congr rfl fun q _ => congrArg₂ (· * ·) ?_ (congrFun hw _)
    rw [hx s, Layout.block_apply]
    refine congrArg x (funext fun a => Fin.ext ?_)
    fin_cases a
    · rfl
    · show s.val * 64 + q.val = 64 * s.val + q.val; omega
  · funext a
    refine Fin.ext ?_
    fin_cases a
    · show 64 * c.val + p.val = c.val * 64 + p.val; omega
    · rfl

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Exchange (run_main finalA_x finalA_w finalA_out refOut out_block)

section SameText
variable {F : FTy → Type} [FloatOps F]
attribute [local instance] Cert.Kernel.Gen.facts Cert.KernelIdeal.Gen.facts

/-- The two printed programs have the same body table: label by label the same text, … -/
theorem defs₀_eq : Cert.Kernel.defs₀ (F := F) = Cert.KernelIdeal.defs₀ (F := F) := by
  refine congrArg (Defs.onTc (nD := 16) (τ := Cert.Kernel.τ) (sig := Cert.Kernel.sig) (Val := Elt F) (Λ := Cert.Kernel.Λ₀)) ?_
  funext ℓ a
  match ℓ, a with
  | ⟨0, _⟩, (t, s) => rfl
  | ⟨_ + 1, h⟩, _ => exact absurd h (Nat.not_lt.2 (Nat.le_add_left _ _))

/-- … and so the same table with the pipeline added. -/
theorem defs_eq : Cert.Kernel.defs (F := F) = Cert.KernelIdeal.defs (F := F) :=
  congrArg (Idealize.ShloMosaic.Pipeline.defs Cert.Kernel.pcfgs) defs₀_eq

end SameText

/-- The program as printed, at the bit patterns: its text is the idealized program's, so the one run serves. -/
theorem frame_kernel : Cert.quiescent_Kernel := by
  intro m ρ _
  rw [defs_eq]
  exact (θ_run Cert.KernelIdeal.defs _ _).mono
    (fun r (h : Cert.Exchange.QC m ρ r ∧ r.2.sem = fun _ => 0) =>
      ⟨fun c => ⟨(h.1 c (0 : Fin 3)).trans (finalA_x m ρ c), (h.1 c (1 : Fin 3)).trans (finalA_w m ρ c)⟩, h.2⟩)
    (run_main (F := Bits) m ρ)

/-- The idealized program, at the extended reals. -/
theorem frame_kernelIdeal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- The reference: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is its block of rows of what the reference computes of the whole arrays. -/
theorem value : Cert.algebraic_KernelIdeal_ReferenceIdeal := by
  intro m ρ m' ρ' _ hargs
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c (2 : Fin 3)).trans (finalA_out m ρ c)).trans
          (out_block m ρ c _ _ (fun s => (hargs s).1) (hargs c).2),
        (h.1 c (0 : Fin 3)).trans (finalA_x m ρ c), (h.1 c (1 : Fin 3)).trans (finalA_w m ρ c)⟩)
      (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, value⟩

end Cert.Proof

end
